-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bits_and_finite [hPre_bits_and_finite : Cert.Pre_bits_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_bits_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bits_and_finite [hPre_bits_and_finite : Cert.Pre_bits_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_bits_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_bits_and_finite [hKernelIdeal : Cert.KernelIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bits_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_bits_and_finite [hReferenceIdeal : Cert.ReferenceIdeal.Facts] [hPre_bits_and_finite : Cert.Pre_bits_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bits_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_bits_and_finite [hKernelIdeal : Cert.KernelIdeal.Facts] [hReferenceIdeal : Cert.ReferenceIdeal.Facts] [hPre_bits_and_finite : Cert.Pre_bits_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bits_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v95)) (v2 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_v85) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_bits_and_finite : Cert.Pre_bits_and_finite.Facts),
    quiescent_Kernel (hKernel := hKernel)
    ∧ quiescent_KernelIdeal (hKernelIdeal := hKernelIdeal)
    ∧ quiescent_KernelIdeal_pre_bits_and_finite (hKernelIdeal := hKernelIdeal) (hPre_bits_and_finite := hPre_bits_and_finite)
    ∧ quiescent_ReferenceIdeal (hReferenceIdeal := hReferenceIdeal)
    ∧ quiescent_ReferenceIdeal_pre_bits_and_finite (hReferenceIdeal := hReferenceIdeal) (hPre_bits_and_finite := hPre_bits_and_finite)
    ∧ preserves_Kernel_KernelIdeal
    ∧ algebraic_KernelIdeal_ReferenceIdeal_pre_bits_and_finite (hKernelIdeal := hKernelIdeal) (hReferenceIdeal := hReferenceIdeal) (hPre_bits_and_finite := hPre_bits_and_finite)
-- ==== Pre_bits_and_finite.lean ====
abbrev S1024x8x3x6x36 : Shape := ⟨5, ![1024, 8, 3, 6, 36]⟩
abbrev S1318x128 : Shape := ⟨2, ![1318, 128]⟩
abbrev S128x128 : Shape := ⟨2, ![128, 128]⟩
abbrev S128 : Shape := ⟨1, ![128]⟩
abbrev S314x64 : Shape := ⟨2, ![314, 64]⟩
abbrev S64x128 : Shape := ⟨2, ![64, 128]⟩
abbrev S528x64 : Shape := ⟨2, ![528, 64]⟩
abbrev S81x128 : Shape := ⟨2, ![81, 128]⟩
abbrev S919x128 : Shape := ⟨2, ![919, 128]⟩
abbrev S134x128 : Shape := ⟨2, ![134, 128]⟩
abbrev S250x128 : Shape := ⟨2, ![250, 128]⟩
abbrev S_ : Shape := ⟨0, ![]⟩

class Facts : Prop where
  bcast_S_S1024x8x3x6x36 : S_.BroadcastsInDim S1024x8x3x6x36 (![] : Fin 0 → Fin S1024x8x3x6x36.rank)
  bcast_S_S1318x128 : S_.BroadcastsInDim S1318x128 (![] : Fin 0 → Fin S1318x128.rank)
  bcast_S_S128x128 : S_.BroadcastsInDim S128x128 (![] : Fin 0 → Fin S128x128.rank)
  bcast_S_S128 : S_.BroadcastsInDim S128 (![] : Fin 0 → Fin S128.rank)
  bcast_S_S314x64 : S_.BroadcastsInDim S314x64 (![] : Fin 0 → Fin S314x64.rank)
  bcast_S_S64x128 : S_.BroadcastsInDim S64x128 (![] : Fin 0 → Fin S64x128.rank)
  bcast_S_S528x64 : S_.BroadcastsInDim S528x64 (![] : Fin 0 → Fin S528x64.rank)
  bcast_S_S81x128 : S_.BroadcastsInDim S81x128 (![] : Fin 0 → Fin S81x128.rank)
  bcast_S_S919x128 : S_.BroadcastsInDim S919x128 (![] : Fin 0 → Fin S919x128.rank)
  bcast_S_S134x128 : S_.BroadcastsInDim S134x128 (![] : Fin 0 → Fin S134x128.rank)
  bcast_S_S250x128 : S_.BroadcastsInDim S250x128 (![] : Fin 0 → Fin S250x128.rank)

variable [Facts]

def fn_part2 {F : FTy → Type} [FloatOps F] (main_arg12 : FVec F S128 .f32) (main_arg15 : FVec F S250x128 .f32) (main_arg16 : FVec F S128 .f32) (main_v4 : IVec S1024x8x3x6x36 1) (main_v7 : IVec S1318x128 1) (main_v10 : IVec S128x128 1) (main_v13 : IVec S128 1) (main_v16 : IVec S314x64 1) (main_v19 : IVec S64x128 1) (main_v22 : IVec S128 1) (main_v25 : IVec S528x64 1) (main_v28 : IVec S81x128 1) (main_v31 : IVec S128 1) (main_v34 : IVec S919x128 1) (main_v35 : FVec F S134x128 .f32) : IVec S1024x8x3x6x36 1 × IVec S1318x128 1 × IVec S128x128 1 × IVec S128 1 × IVec S314x64 1 × IVec S64x128 1 × IVec S128 1 × IVec S528x64 1 × IVec S81x128 1 × IVec S128 1 × IVec S919x128 1 × IVec S134x128 1 × IVec S128 1 × IVec S250x128 1 × IVec S128 1 :=
  let main_cst_11 : FVec F S_ .f32 := constant S_ .f32 0x7F800000#32
  let main_v36 : FVec F S134x128 .f32 := broadcastInDim S134x128 ![] bcast_S_S134x128 main_cst_11
  let main_v37 : IVec S134x128 1 := cmpf .olt main_v35 main_v36
  let main_v38 : FVec F S128 .f32 := Host.absf main_arg12
  let main_cst_12 : FVec F S_ .f32 := constant S_ .f32 0x7F800000#32
  let main_v39 : FVec F S128 .f32 := broadcastInDim S128 ![] bcast_S_S128 main_cst_12
  let main_v40 : IVec S128 1 := cmpf .olt main_v38 main_v39
  let main_v41 : FVec F S250x128 .f32 := Host.absf main_arg15
  let main_cst_13 : FVec F S_ .f32 := constant S_ .f32 0x7F800000#32
  let main_v42 : FVec F S250x128 .f32 := broadcastInDim S250x128 ![] bcast_S_S250x128 main_cst_13
  let main_v43 : IVec S250x128 1 := cmpf .olt main_v41 main_v42
  let main_v44 : FVec F S128 .f32 := Host.absf main_arg16
  let main_cst_14 : FVec F S_ .f32 := constant S_ .f32 0x7F800000#32
  let main_v45 : FVec F S128 .f32 := broadcastInDim S128 ![] bcast_S_S128 main_cst_14
  let main_v46 : IVec S128 1 := cmpf .olt main_v44 main_v45
  (main_v4, main_v7, main_v10, main_v13, main_v16, main_v19, main_v22, main_v25, main_v28, main_v31, main_v34, main_v37, main_v40, main_v43, main_v46)

def fn_part1 {F : FTy → Type} [FloatOps F] (main_arg6 : FVec F S128 .f32) (main_arg7 : FVec F S528x64 .f32) (main_arg8 : FVec F S81x128 .f32) (main_arg9 : FVec F S128 .f32) (main_arg10 : FVec F S919x128 .f32) (main_arg11 : FVec F S134x128 .f32) (main_arg12 : FVec F S128 .f32) (main_arg15 : FVec F S250x128 .f32) (main_arg16 : FVec F S128 .f32) (main_v4 : IVec S1024x8x3x6x36 1) (main_v7 : IVec S1318x128 1) (main_v10 : IVec S128x128 1) (main_v13 : IVec S128 1) (main_v16 : IVec S314x64 1) (main_v17 : FVec F S64x128 .f32) : IVec S1024x8x3x6x36 1 × IVec S1318x128 1 × IVec S128x128 1 × IVec S128 1 × IVec S314x64 1 × IVec S64x128 1 × IVec S128 1 × IVec S528x64 1 × IVec S81x128 1 × IVec S128 1 × IVec S919x128 1 × IVec S134x128 1 × IVec S128 1 × IVec S250x128 1 × IVec S128 1 :=
  let main_cst_5 : FVec F S_ .f32 := constant S_ .f32 0x7F800000#32
  let main_v18 : FVec F S64x128 .f32 := broadcastInDim S64x128 ![] bcast_S_S64x128 main_cst_5
  let main_v19 : IVec S64x128 1 := cmpf .olt main_v17 main_v18
  let main_v20 : FVec F S128 .f32 := Host.absf main_arg6
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_v23 : FVec F S528x64 .f32 := Host.absf main_arg7
  let main_cst_7 : FVec F S_ .f32 := constant S_ .f32 0x7F800000#32
  let main_v24 : FVec F S528x64 .f32 := broadcastInDim S528x64 ![] bcast_S_S528x64 main_cst_7
  let main_v25 : IVec S528x64 1 := cmpf .olt main_v23 main_v24
  let main_v26 : FVec F S81x128 .f32 := Host.absf main_arg8
  let main_cst_8 : FVec F S_ .f32 := constant S_ .f32 0x7F800000#32
  let main_v27 : FVec F S81x128 .f32 := broadcastInDim S81x128 ![] bcast_S_S81x128 main_cst_8
  let main_v28 : IVec S81x128 1 := cmpf .olt main_v26 main_v27
  let main_v29 : FVec F S128 .f32 := Host.absf main_arg9
  let main_cst_9 : FVec F S_ .f32 := constant S_ .f32 0x7F800000#32
  let main_v30 : FVec F S128 .f32 := broadcastInDim S128 ![] bcast_S_S128 main_cst_9
  let main_v31 : IVec S128 1 := cmpf .olt main_v29 main_v30
  let main_v32 : FVec F S919x128 .f32 := Host.absf main_arg10
  let main_cst_10 : FVec F S_ .f32 := constant S_ .f32 0x7F800000#32
  let main_v33 : FVec F S919x128 .f32 := broadcastInDim S919x128 ![] bcast_S_S919x128 main_cst_10
  let main_v34 : IVec S919x128 1 := cmpf .olt main_v32 main_v33
  let main_v35 : FVec F S134x128 .f32 := Host.absf main_arg11
  fn_part2 (F := F) main_arg12 main_arg15 main_arg16 main_v4 main_v7 main_v10 main_v13 main_v16 main_v19 main_v22 main_v25 main_v28 main_v31 main_v34 main_v35

def fn {F : FTy → Type} [FloatOps F] (main_arg0 : FVec F S1024x8x3x6x36 .f32) (main_arg1 : FVec F S1318x128 .f32) (main_arg2 : FVec F S128x128 .f32) (main_arg3 : FVec F S128 .f32) (main_arg4 : FVec F S314x64 .f32) (main_arg5 : FVec F S64x128 .f32) (main_arg6 : FVec F S128 .f32) (main_arg7 : FVec F S528x64 .f32) (main_arg8 : FVec F S81x128 .f32) (main_arg9 : FVec F S128 .f32) (main_arg10 : FVec F S919x128 .f32) (main_arg11 : FVec F S134x128 .f32) (main_arg12 : FVec F S128 .f32) (main_arg13 : FVec F S134x128 .f32) (main_arg14 : FVec F S128 .f32) (main_arg15 : FVec F S250x128 .f32) (main_arg16 : FVec F S128 .f32) : IVec S1024x8x3x6x36 1 × IVec S1318x128 1 × IVec S128x128 1 × IVec S128 1 × IVec S314x64 1 × IVec S64x128 1 × IVec S128 1 × IVec S528x64 1 × IVec S81x128 1 × IVec S128 1 × IVec S919x128 1 × IVec S134x128 1 × IVec S128 1 × IVec S250x128 1 × IVec S128 1 :=
  let main_cst : FVec F S_ .f32 := constant S_ .f32 0x00000000#32
  let main_v0 : FVec F S1024x8x3x6x36 .f32 := broadcastInDim S1024x8x3x6x36 ![] bcast_S_S1024x8x3x6x36 main_cst
  let main_v1 : IVec S1024x8x3x6x36 1 := cmpf .oeq main_arg0 main_v0
  let main_cst_0 : FVec F S_ .f32 := constant S_ .f32 0x3F800000#32
  let main_v2 : FVec F S1024x8x3x6x36 .f32 := broadcastInDim S1024x8x3x6x36 ![] bcast_S_S1024x8x3x6x36 main_cst_0
  let main_v3 : IVec S1024x8x3x6x36 1 := cmpf .oeq main_arg0 main_v2
  let main_v4 : IVec S1024x8x3x6x36 1 := ori main_v1 main_v3
  let main_v5 : FVec F S1318x128 .f32 := Host.absf main_arg1
  let main_cst_1 : FVec F S_ .f32 := constant S_ .f32 0x7F800000#32
  let main_v6 : FVec F S1318x128 .f32 := broadcastInDim S1318x128 ![] bcast_S_S1318x128 main_cst_1
  let main_v7 : IVec S1318x128 1 := cmpf .olt main_v5 main_v6
  let main_v8 : FVec F S128x128 .f32 := Host.absf main_arg2
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_v11 : FVec F S128 .f32 := Host.absf main_arg3
  let main_cst_3 : FVec F S_ .f32 := constant S_ .f32 0x7F800000#32
  let main_v12 : FVec F S128 .f32 := broadcastInDim S128 ![] bcast_S_S128 main_cst_3
  let main_v13 : IVec S128 1 := cmpf .olt main_v11 main_v12
  let main_v14 : FVec F S314x64 .f32 := Host.absf main_arg4
  let main_cst_4 : FVec F S_ .f32 := constant S_ .f32 0x7F800000#32
  let main_v15 : FVec F S314x64 .f32 := broadcastInDim S314x64 ![] bcast_S_S314x64 main_cst_4
  let main_v16 : IVec S314x64 1 := cmpf .olt main_v14 main_v15
  let main_v17 : FVec F S64x128 .f32 := Host.absf main_arg5
  fn_part1 (F := F) main_arg6 main_arg7 main_arg8 main_arg9 main_arg10 main_arg11 main_arg12 main_arg15 main_arg16 main_v4 main_v7 main_v10 main_v13 main_v16 main_v17
-- ==== Kernel.lean ====
abbrev S1024x8x3x6x36 : Shape := ⟨5, ![1024, 8, 3, 6, 36]⟩
abbrev S1318x128 : Shape := ⟨2, ![1318, 128]⟩
abbrev S128x128 : Shape := ⟨2, ![128, 128]⟩
abbrev S128 : Shape := ⟨1, ![128]⟩
abbrev S314x64 : Shape := ⟨2, ![314, 64]⟩
abbrev S64x128 : Shape := ⟨2, ![64, 128]⟩
abbrev S528x64 : Shape := ⟨2, ![528, 64]⟩
abbrev S81x128 : Shape := ⟨2, ![81, 128]⟩
abbrev S919x128 : Shape := ⟨2, ![919, 128]⟩
abbrev S134x128 : Shape := ⟨2, ![134, 128]⟩
abbrev S250x128 : Shape := ⟨2, ![250, 128]⟩
abbrev S37x1x3x1x1 : Shape := ⟨5, ![37, 1, 3, 1, 1]⟩
abbrev S37x1x3x1x17 : Shape := ⟨5, ![37, 1, 3, 1, 17]⟩
abbrev S37x1x3x1x4x1 : Shape := ⟨6, ![37, 1, 3, 1, 4, 1]⟩
abbrev S37x1x3x1x4x6 : Shape := ⟨6, ![37, 1, 3, 1, 4, 6]⟩
abbrev S37x1x3x1x250 : Shape := ⟨5, ![37, 1, 3, 1, 250]⟩
abbrev S37x1x3x1x128 : Shape := ⟨5, ![37, 1, 3, 1, 128]⟩
abbrev S1x1x1x1x128 : Shape := ⟨5, ![1, 1, 1, 1, 128]⟩
abbrev S37x1x3x1x64 : Shape := ⟨5, ![37, 1, 3, 1, 64]⟩
abbrev S17x128 : Shape := ⟨2, ![17, 128]⟩
abbrev S37x1x3x1x17x1 : Shape := ⟨6, ![37, 1, 3, 1, 17, 1]⟩
abbrev S1x1x1x1x17x128 : Shape := ⟨6, ![1, 1, 1, 1, 17, 128]⟩
abbrev S37x1x3x1x17x128 : Shape := ⟨6, ![37, 1, 3, 1, 17, 128]⟩
abbrev S_ : Shape := ⟨0, ![]⟩
abbrev S37x1x3x1x4x128 : Shape := ⟨6, ![37, 1, 3, 1, 4, 128]⟩
abbrev S6x128 : Shape := ⟨2, ![6, 128]⟩
abbrev S37x1x3x1x4x6x1 : Shape := ⟨7, ![37, 1, 3, 1, 4, 6, 1]⟩
abbrev S1x1x1x1x1x6x128 : Shape := ⟨7, ![1, 1, 1, 1, 1, 6, 128]⟩
abbrev S37x1x3x1x4x6x128 : Shape := ⟨7, ![37, 1, 3, 1, 4, 6, 128]⟩
abbrev S1x1x1x1x1x128 : Shape := ⟨6, ![1, 1, 1, 1, 1, 128]⟩
abbrev S37x1x3x1x250x1 : Shape := ⟨6, ![37, 1, 3, 1, 250, 1]⟩
abbrev S1x1x1x1x250x128 : Shape := ⟨6, ![1, 1, 1, 1, 250, 128]⟩
abbrev S37x1x3x1x250x128 : Shape := ⟨6, ![37, 1, 3, 1, 250, 128]⟩
abbrev S1x1x3x1x128 : Shape := ⟨5, ![1, 1, 3, 1, 128]⟩
abbrev S3x128 : Shape := ⟨2, ![3, 128]⟩
abbrev S36x1x1x1x128 : Shape := ⟨5, ![36, 1, 1, 1, 128]⟩
abbrev S36x128 : Shape := ⟨2, ![36, 128]⟩
abbrev S1x128 : Shape := ⟨2, ![1, 128]⟩
abbrev S1x1x1x1x4x128 : Shape := ⟨6, ![1, 1, 1, 1, 4, 128]⟩
abbrev S4x128 : Shape := ⟨2, ![4, 128]⟩
abbrev S512 : Shape := ⟨1, ![512]⟩
abbrev S36x1x1x1x4x128 : Shape := ⟨6, ![36, 1, 1, 1, 4, 128]⟩
abbrev S36x4x128 : Shape := ⟨3, ![36, 4, 128]⟩
abbrev S1x4x128 : Shape := ⟨3, ![1, 4, 128]⟩
abbrev S36x512 : Shape := ⟨2, ![36, 512]⟩
abbrev S36x640 : Shape := ⟨2, ![36, 640]⟩
abbrev S640 : Shape := ⟨1, ![640]⟩
abbrev S1x640 : Shape := ⟨2, ![1, 640]⟩
abbrev S1024x18x8x128 : Shape := ⟨4, ![1024, 18, 8, 128]⟩
abbrev S589824x128 : Shape := ⟨2, ![589824, 128]⟩
abbrev S32x8x3x6x36 : Shape := ⟨5, ![32, 8, 3, 6, 36]⟩
abbrev S32x18x8x128 : Shape := ⟨4, ![32, 18, 8, 128]⟩
abbrev S18432x128 : Shape := ⟨2, ![18432, 128]⟩
abbrev S4608x36 : Shape := ⟨2, ![4608, 36]⟩
abbrev S4608x640 : Shape := ⟨2, ![4608, 640]⟩
abbrev S4608x1 : Shape := ⟨2, ![4608, 1]⟩
abbrev S4608x128 : Shape := ⟨2, ![4608, 128]⟩
abbrev S32x8x18x128 : Shape := ⟨4, ![32, 8, 18, 128]⟩
abbrev S4608x512 : Shape := ⟨2, ![4608, 512]⟩
abbrev S4608x4x128 : Shape := ⟨3, ![4608, 4, 128]⟩
abbrev S1024x8x18x128 : Shape := ⟨4, ![1024, 8, 18, 128]⟩
abbrev S1024x8x3x6x4x128 : Shape := ⟨6, ![1024, 8, 3, 6, 4, 128]⟩
abbrev S3x6x36x8x1024 : Shape := ⟨5, ![3, 6, 36, 8, 1024]⟩
abbrev S3x6x1x8x1024 : Shape := ⟨5, ![3, 6, 1, 8, 1024]⟩
abbrev S3x6x8x1024 : Shape := ⟨4, ![3, 6, 8, 1024]⟩
abbrev S18x8x1024 : Shape := ⟨3, ![18, 8, 1024]⟩
abbrev S1024x8x18 : Shape := ⟨3, ![1024, 8, 18]⟩

abbrev nBuf : Space → Nat
  | .hbm => 127
  | .vmem => 9
  | .smem => 0
  | _ => 0

abbrev bufTy : (tb : Table) → Fin (tcTables nBuf tb) → BufTy
  | .hbm, ⟨0, _⟩ => ⟨S1024x8x3x6x36, .f32⟩
  | .hbm, ⟨1, _⟩ => ⟨S1318x128, .f32⟩
  | .hbm, ⟨2, _⟩ => ⟨S128x128, .f32⟩
  | .hbm, ⟨3, _⟩ => ⟨S128, .f32⟩
  | .hbm, ⟨4, _⟩ => ⟨S314x64, .f32⟩
  | .hbm, ⟨5, _⟩ => ⟨S64x128, .f32⟩
  | .hbm, ⟨6, _⟩ => ⟨S128, .f32⟩
  | .hbm, ⟨7, _⟩ => ⟨S528x64, .f32⟩
  | .hbm, ⟨8, _⟩ => ⟨S81x128, .f32⟩
  | .hbm, ⟨9, _⟩ => ⟨S128, .f32⟩
  | .hbm, ⟨10, _⟩ => ⟨S919x128, .f32⟩
  | .hbm, ⟨11, _⟩ => ⟨S134x128, .f32⟩
  | .hbm, ⟨12, _⟩ => ⟨S128, .f32⟩
  | .hbm, ⟨13, _⟩ => ⟨S134x128, .f32⟩
  | .hbm, ⟨14, _⟩ => ⟨S128, .f32⟩
  | .hbm, ⟨15, _⟩ => ⟨S250x128, .f32⟩
  | .hbm, ⟨16, _⟩ => ⟨S128, .f32⟩
  | .hbm, ⟨17, _⟩ => ⟨S37x1x3x1x1, .i32⟩
  | .hbm, ⟨18, _⟩ => ⟨S37x1x3x1x1, .i32⟩
  | .hbm, ⟨19, _⟩ => ⟨S37x1x3x1x1, .i32⟩
  | .hbm, ⟨20, _⟩ => ⟨S37x1x3x1x17, .f32⟩
  | .hbm, ⟨21, _⟩ => ⟨S37x1x3x1x4x1, .i32⟩
  | .hbm, ⟨22, _⟩ => ⟨S37x1x3x1x4x6, .f32⟩
  | .hbm, ⟨23, _⟩ => ⟨S37x1x3x1x250, .f32⟩
  | .hbm, ⟨24, _⟩ => ⟨S37x1x3x1x128, .f32⟩
  | .hbm, ⟨25, _⟩ => ⟨S37x1x3x1x128, .f32⟩
  | .hbm, ⟨26, _⟩ => ⟨S1x1x1x1x128, .f32⟩
  | .hbm, ⟨27, _⟩ => ⟨S37x1x3x1x128, .f32⟩
  | .hbm, ⟨28, _⟩ => ⟨S37x1x3x1x128, .f32⟩
  | .hbm, ⟨29, _⟩ => ⟨S37x1x3x1x64, .f32⟩
  | .hbm, ⟨30, _⟩ => ⟨S37x1x3x1x128, .f32⟩
  | .hbm, ⟨31, _⟩ => ⟨S1x1x1x1x128, .f32⟩
  | .hbm, ⟨32, _⟩ => ⟨S37x1x3x1x128, .f32⟩
  | .hbm, ⟨33, _⟩ => ⟨S37x1x3x1x128, .f32⟩
  | .hbm, ⟨34, _⟩ => ⟨S37x1x3x1x64, .f32⟩
  | .hbm, ⟨35, _⟩ => ⟨S64x128, .f32⟩
  | .hbm, ⟨36, _⟩ => ⟨S37x1x3x1x128, .f32⟩
  | .hbm, ⟨37, _⟩ => ⟨S17x128, .f32⟩
  | .hbm, ⟨38, _⟩ => ⟨S37x1x3x1x17x1, .f32⟩
  | .hbm, ⟨39, _⟩ => ⟨S1x1x1x1x17x128, .f32⟩
  | .hbm, ⟨40, _⟩ => ⟨S37x1x3x1x17x128, .f32⟩
  | .hbm, ⟨41, _⟩ => ⟨S37x1x3x1x17x128, .f32⟩
  | .hbm, ⟨42, _⟩ => ⟨S37x1x3x1x17x128, .f32⟩
  | .hbm, ⟨43, _⟩ => ⟨S_, .f32⟩
  | .hbm, ⟨44, _⟩ => ⟨S37x1x3x1x128, .f32⟩
  | .hbm, ⟨45, _⟩ => ⟨S37x1x3x1x128, .f32⟩
  | .hbm, ⟨46, _⟩ => ⟨S1x1x1x1x128, .f32⟩
  | .hbm, ⟨47, _⟩ => ⟨S37x1x3x1x128, .f32⟩
  | .hbm, ⟨48, _⟩ => ⟨S37x1x3x1x128, .f32⟩
  | .hbm, ⟨49, _⟩ => ⟨S37x1x3x1x4x128, .f32⟩
  | .hbm, ⟨50, _⟩ => ⟨S128x128, .f32⟩
  | .hbm, ⟨51, _⟩ => ⟨S37x1x3x1x4x128, .f32⟩
  | .hbm, ⟨52, _⟩ => ⟨S6x128, .f32⟩
  | .hbm, ⟨53, _⟩ => ⟨S37x1x3x1x4x6x1, .f32⟩
  | .hbm, ⟨54, _⟩ => ⟨S1x1x1x1x1x6x128, .f32⟩
  | .hbm, ⟨55, _⟩ => ⟨S37x1x3x1x4x6x128, .f32⟩
  | .hbm, ⟨56, _⟩ => ⟨S37x1x3x1x4x6x128, .f32⟩
  | .hbm, ⟨57, _⟩ => ⟨S37x1x3x1x4x6x128, .f32⟩
  | .hbm, ⟨58, _⟩ => ⟨S_, .f32⟩
  | .hbm, ⟨59, _⟩ => ⟨S37x1x3x1x4x128, .f32⟩
  | .hbm, ⟨60, _⟩ => ⟨S37x1x3x1x4x128, .f32⟩
  | .hbm, ⟨61, _⟩ => ⟨S1x1x1x1x1x128, .f32⟩
  | .hbm, ⟨62, _⟩ => ⟨S37x1x3x1x4x128, .f32⟩
  | .hbm, ⟨63, _⟩ => ⟨S37x1x3x1x4x128, .f32⟩
  | .hbm, ⟨64, _⟩ => ⟨S_, .f32⟩
  | .hbm, ⟨65, _⟩ => ⟨S37x1x3x1x128, .f32⟩
  | .hbm, ⟨66, _⟩ => ⟨S37x1x3x1x250x1, .f32⟩
  | .hbm, ⟨67, _⟩ => ⟨S1x1x1x1x250x128, .f32⟩
  | .hbm, ⟨68, _⟩ => ⟨S37x1x3x1x250x128, .f32⟩
  | .hbm, ⟨69, _⟩ => ⟨S37x1x3x1x250x128, .f32⟩
  | .hbm, ⟨70, _⟩ => ⟨S37x1x3x1x250x128, .f32⟩
  | .hbm, ⟨71, _⟩ => ⟨S_, .f32⟩
  | .hbm, ⟨72, _⟩ => ⟨S37x1x3x1x128, .f32⟩
  | .hbm, ⟨73, _⟩ => ⟨S1x1x1x1x128, .f32⟩
  | .hbm, ⟨74, _⟩ => ⟨S37x1x3x1x128, .f32⟩
  | .hbm, ⟨75, _⟩ => ⟨S37x1x3x1x128, .f32⟩
  | .hbm, ⟨76, _⟩ => ⟨S37x1x3x1x128, .f32⟩
  | .hbm, ⟨77, _⟩ => ⟨S37x1x3x1x128, .f32⟩
  | .hbm, ⟨78, _⟩ => ⟨S37x1x3x1x128, .f32⟩
  | .hbm, ⟨79, _⟩ => ⟨S37x1x3x1x128, .f32⟩
  | .hbm, ⟨80, _⟩ => ⟨S1x1x3x1x128, .f32⟩
  | .hbm, ⟨81, _⟩ => ⟨S3x128, .f32⟩
  | .hbm, ⟨82, _⟩ => ⟨S36x1x1x1x128, .f32⟩
  | .hbm, ⟨83, _⟩ => ⟨S36x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S36x128, .f32⟩
  | .hbm, ⟨88, _⟩ => ⟨S36x128, .f32⟩
  | .hbm, ⟨89, _⟩ => ⟨S1x1x1x1x4x128, .f32⟩
  | .hbm, ⟨90, _⟩ => ⟨S4x128, .f32⟩
  | .hbm, ⟨91, _⟩ => ⟨S512, .f32⟩
  | .hbm, ⟨92, _⟩ => ⟨S36x1x1x1x4x128, .f32⟩
  | .hbm, ⟨93, _⟩ => ⟨S36x4x128, .f32⟩
  | .hbm, ⟨94, _⟩ => ⟨S1x1x1x1x4x128, .f32⟩
  | .hbm, ⟨95, _⟩ => ⟨S4x128, .f32⟩
  | .hbm, ⟨96, _⟩ => ⟨S1x4x128, .f32⟩
  | .hbm, ⟨97, _⟩ => ⟨S36x4x128, .f32⟩
  | .hbm, ⟨98, _⟩ => ⟨S36x4x128, .f32⟩
  | .hbm, ⟨99, _⟩ => ⟨S36x512, .f32⟩
  | .hbm, ⟨100, _⟩ => ⟨S36x640, .f32⟩
  | .hbm, ⟨101, _⟩ => ⟨S1x128, .f32⟩
  | .hbm, ⟨102, _⟩ => ⟨S128, .f32⟩
  | .hbm, ⟨103, _⟩ => ⟨S640, .f32⟩
  | .hbm, ⟨104, _⟩ => ⟨S1x640, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S128, .f32⟩
  | .hbm, ⟨109, _⟩ => ⟨S128, .f32⟩
  | .hbm, ⟨110, _⟩ => ⟨S1x128, .f32⟩
  | .hbm, ⟨111, _⟩ => ⟨S1024x18x8x128, .f32⟩
  | .hbm, ⟨112, _⟩ => ⟨S589824x128, .f32⟩
  | .hbm, ⟨113, _⟩ => ⟨S1024x8x18x128, .f32⟩
  | .hbm, ⟨114, _⟩ => ⟨S1024x8x3x6x4x128, .f32⟩
  | .hbm, ⟨115, _⟩ => ⟨S3x6x36x8x1024, .f32⟩
  | .hbm, ⟨116, _⟩ => ⟨S3x6x1x8x1024, .f32⟩
  | .hbm, ⟨117, _⟩ => ⟨S3x6x8x1024, .f32⟩
  | .hbm, ⟨118, _⟩ => ⟨S_, .f32⟩
  | .hbm, ⟨119, _⟩ => ⟨S3x6x8x1024, .f32⟩
  | .hbm, ⟨120, _⟩ => ⟨S3x6x8x1024, .f32⟩
  | .hbm, ⟨121, _⟩ => ⟨S3x6x8x1024, .i32⟩
  | .hbm, ⟨122, _⟩ => ⟨S_, .i32⟩
  | .hbm, ⟨123, _⟩ => ⟨S3x6x8x1024, .i32⟩
  | .hbm, ⟨124, _⟩ => ⟨S3x6x8x1024, .i1⟩
  | .hbm, ⟨125, _⟩ => ⟨S18x8x1024, .i1⟩
  | .hbm, ⟨126, _⟩ => ⟨S1024x8x18, .i1⟩
  | .local _ .vmem, ⟨0, _⟩ => ⟨S32x8x3x6x36, .f32⟩
  | .local _ .vmem, ⟨1, _⟩ => ⟨S32x8x3x6x36, .f32⟩
  | .local _ .vmem, ⟨2, _⟩ => ⟨S36x640, .f32⟩
  | .local _ .vmem, ⟨3, _⟩ => ⟨S1x640, .f32⟩
  | .local _ .vmem, ⟨4, _⟩ => ⟨S1x128, .f32⟩
  | .local _ .vmem, ⟨5, _⟩ => ⟨S32x18x8x128, .f32⟩
  | .local _ .vmem, ⟨6, _⟩ => ⟨S32x18x8x128, .f32⟩
  | .local _ .vmem, ⟨7, _⟩ => ⟨S18432x128, .f32⟩
  | .local _ .vmem, ⟨8, _⟩ => ⟨S18432x128, .f32⟩
  | _, _ => ⟨S1024x8x3x6x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_c_1 : Ref sig .tc := ⟨.hbm, 19, rfl⟩
abbrev main_cst : Ref sig .tc := ⟨.hbm, 20, rfl⟩
abbrev main_c_2 : Ref sig .tc := ⟨.hbm, 21, rfl⟩
abbrev main_cst_3 : Ref sig .tc := ⟨.hbm, 22, rfl⟩
abbrev main_cst_4 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83_0 : Ref sig .tc := ⟨.hbm, 111, rfl⟩
abbrev main_v83_1 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_9 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_10 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x3x6x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x18x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S18432x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x8x3x6x36 : Shape := ⟨5, ![1024, 8, 3, 6, 36]⟩
abbrev S1318x128 : Shape := ⟨2, ![1318, 128]⟩
abbrev S128x128 : Shape := ⟨2, ![128, 128]⟩
abbrev S128 : Shape := ⟨1, ![128]⟩
abbrev S314x64 : Shape := ⟨2, ![314, 64]⟩
abbrev S64x128 : Shape := ⟨2, ![64, 128]⟩
abbrev S528x64 : Shape := ⟨2, ![528, 64]⟩
abbrev S81x128 : Shape := ⟨2, ![81, 128]⟩
abbrev S919x128 : Shape := ⟨2, ![919, 128]⟩
abbrev S134x128 : Shape := ⟨2, ![134, 128]⟩
abbrev S250x128 : Shape := ⟨2, ![250, 128]⟩
abbrev S768x27 : Shape := ⟨2, ![768, 27]⟩
abbrev S512x7 : Shape := ⟨2, ![512, 7]⟩
abbrev S18x17 : Shape := ⟨2, ![18, 17]⟩
abbrev S8x7 : Shape := ⟨2, ![8, 7]⟩
abbrev S4x3 : Shape := ⟨2, ![4, 3]⟩
abbrev S16x3 : Shape := ⟨2, ![16, 3]⟩
abbrev S64x6 : Shape := ⟨2, ![64, 6]⟩
abbrev S16x15 : Shape := ⟨2, ![16, 15]⟩
abbrev S3x2 : Shape := ⟨2, ![3, 2]⟩
abbrev S100x100 : Shape := ⟨2, ![100, 100]⟩
abbrev S2x2 : Shape := ⟨2, ![2, 2]⟩
abbrev S20x19 : Shape := ⟨2, ![20, 19]⟩
abbrev S_ : Shape := ⟨0, ![]⟩
abbrev S1024x8x3x6x1 : Shape := ⟨5, ![1024, 8, 3, 6, 1]⟩
abbrev S1024x8x3x6 : Shape := ⟨4, ![1024, 8, 3, 6]⟩
abbrev S1024x8x3x6x5 : Shape := ⟨5, ![1024, 8, 3, 6, 5]⟩
abbrev S1024x8x3x6x4 : Shape := ⟨5, ![1024, 8, 3, 6, 4]⟩
abbrev S1 : Shape := ⟨1, ![1]⟩
abbrev S1x1x1x1x1 : Shape := ⟨5, ![1, 1, 1, 1, 1]⟩
abbrev S1024x8x3x6x128 : Shape := ⟨5, ![1024, 8, 3, 6, 128]⟩
abbrev S1x1x1x1x128 : Shape := ⟨5, ![1, 1, 1, 1, 128]⟩
abbrev S1024x8x3x6x27 : Shape := ⟨5, ![1024, 8, 3, 6, 27]⟩
abbrev S1024x8x3x6x5x1 : Shape := ⟨6, ![1024, 8, 3, 6, 5, 1]⟩
abbrev S1x1x1x1x1x1 : Shape := ⟨6, ![1, 1, 1, 1, 1, 1]⟩
abbrev S1024x8x3x6x5x7 : Shape := ⟨6, ![1024, 8, 3, 6, 5, 7]⟩
abbrev S1024x8x3x6x35 : Shape := ⟨5, ![1024, 8, 3, 6, 35]⟩
abbrev S1024x8x3x6x64 : Shape := ⟨5, ![1024, 8, 3, 6, 64]⟩
abbrev S1024x8x3x6x17 : Shape := ⟨5, ![1024, 8, 3, 6, 17]⟩
abbrev S1024x8x3x6x81 : Shape := ⟨5, ![1024, 8, 3, 6, 81]⟩
abbrev S1024x8x3x6x7 : Shape := ⟨5, ![1024, 8, 3, 6, 7]⟩
abbrev S1024x8x3x6x3 : Shape := ⟨5, ![1024, 8, 3, 6, 3]⟩
abbrev S1024x8x3x6x4x1 : Shape := ⟨6, ![1024, 8, 3, 6, 4, 1]⟩
abbrev S1024x8x3x6x4x128 : Shape := ⟨6, ![1024, 8, 3, 6, 4, 128]⟩
abbrev S1024x8x3x6x4x6 : Shape := ⟨6, ![1024, 8, 3, 6, 4, 6]⟩
abbrev S1024x8x3x6x4x134 : Shape := ⟨6, ![1024, 8, 3, 6, 4, 134]⟩
abbrev S1x1x1x1x1x128 : Shape := ⟨6, ![1, 1, 1, 1, 1, 128]⟩
abbrev S1024x8x3x6x6 : Shape := ⟨5, ![1024, 8, 3, 6, 6]⟩
abbrev S1024x8x3x6x134 : Shape := ⟨5, ![1024, 8, 3, 6, 134]⟩
abbrev S1024x8x2x6 : Shape := ⟨4, ![1024, 8, 2, 6]⟩
abbrev S1024x8x3x6x15 : Shape := ⟨5, ![1024, 8, 3, 6, 15]⟩
abbrev S1024x8x3x6x90 : Shape := ⟨5, ![1024, 8, 3, 6, 90]⟩
abbrev S1024x8x3x6x2 : Shape := ⟨5, ![1024, 8, 3, 6, 2]⟩
abbrev S1024x8x3x6x100 : Shape := ⟨5, ![1024, 8, 3, 6, 100]⟩
abbrev S1024x8x3x6x13 : Shape := ⟨5, ![1024, 8, 3, 6, 13]⟩
abbrev S1024x8x3x6x19 : Shape := ⟨5, ![1024, 8, 3, 6, 19]⟩
abbrev S1024x8x3x6x250 : Shape := ⟨5, ![1024, 8, 3, 6, 250]⟩
abbrev S1024x8x18x128 : Shape := ⟨4, ![1024, 8, 18, 128]⟩
abbrev S1024x8x18 : Shape := ⟨3, ![1024, 8, 18]⟩

abbrev nBuf : Space → Nat
  | .hbm => 685
  | .vmem => 0
  | .smem => 0
  | _ => 0

abbrev hbmTy0_0 (i : Nat) : BufTy := match i % 128 with
  | 0 => ⟨S1024x8x3x6x36, .f32⟩
  | 1 => ⟨S1318x128, .f32⟩
  | 2 => ⟨S128x128, .f32⟩
  | 3 => ⟨S128, .f32⟩
  | 4 => ⟨S314x64, .f32⟩
  | 5 => ⟨S64x128, .f32⟩
  | 6 => ⟨S128, .f32⟩
  | 7 => ⟨S528x64, .f32⟩
  | 8 => ⟨S81x128, .f32⟩
  | 9 => ⟨S128, .f32⟩
  | 10 => ⟨S919x128, .f32⟩
  | 11 => ⟨S134x128, .f32⟩
  | 12 => ⟨S128, .f32⟩
  | 13 => ⟨S134x128, .f32⟩
  | 14 => ⟨S128, .f32⟩
  | 15 => ⟨S250x128, .f32⟩
  | 16 => ⟨S128, .f32⟩
  | 17 => ⟨S768x27, .f32⟩
  | 18 => ⟨S512x7, .f32⟩
  | 19 => ⟨S18x17, .f32⟩
  | 20 => ⟨S8x7, .f32⟩
  | 21 => ⟨S4x3, .f32⟩
  | 22 => ⟨S16x3, .f32⟩
  | 23 => ⟨S64x6, .f32⟩
  | 24 => ⟨S16x15, .f32⟩
  | 25 => ⟨S3x2, .f32⟩
  | 26 => ⟨S3x2, .f32⟩
  | 27 => ⟨S4x3, .f32⟩
  | 28 => ⟨S100x100, .f32⟩
  | 29 => ⟨S2x2, .f32⟩
  | 30 => ⟨S2x2, .f32⟩
  | 31 => ⟨S20x19, .f32⟩
  | 32 => ⟨S2x2, .f32⟩
  | 33 => ⟨S_, .f32⟩
  | 34 => ⟨S1024x8x3x6x36, .f32⟩
  | 35 => ⟨S1024x8x3x6x36, .f32⟩
  | 36 => ⟨S1024x8x3x6x36, .i32⟩
  | 37 => ⟨S1024x8x3x6x1, .i32⟩
  | 38 => ⟨S1024x8x3x6, .i32⟩
  | 39 => ⟨S1024x8x3x6x1, .i32⟩
  | 40 => ⟨S1024x8x3x6, .i32⟩
  | 41 => ⟨S1024x8x3x6x1, .i32⟩
  | 42 => ⟨S1024x8x3x6, .i32⟩
  | 43 => ⟨S1024x8x3x6x1, .i32⟩
  | 44 => ⟨S1024x8x3x6, .i32⟩
  | 45 => ⟨S1024x8x3x6x1, .f32⟩
  | 46 => ⟨S1024x8x3x6, .f32⟩
  | 47 => ⟨S1024x8x3x6x5, .i32⟩
  | 48 => ⟨S1024x8x3x6x1, .i32⟩
  | 49 => ⟨S1024x8x3x6, .i32⟩
  | 50 => ⟨S1024x8x3x6x1, .i32⟩
  | 51 => ⟨S1024x8x3x6, .i32⟩
  | 52 => ⟨S1024x8x3x6x1, .f32⟩
  | 53 => ⟨S1024x8x3x6, .f32⟩
  | 54 => ⟨S1024x8x3x6, .i32⟩
  | 55 => ⟨S1024x8x3x6x1, .i32⟩
  | 56 => ⟨S1024x8x3x6, .i32⟩
  | 57 => ⟨S1024x8x3x6x1, .i32⟩
  | 58 => ⟨S1024x8x3x6, .i32⟩
  | 59 => ⟨S1024x8x3x6x1, .i32⟩
  | 60 => ⟨S1024x8x3x6, .i32⟩
  | 61 => ⟨S1024x8x3x6x1, .i32⟩
  | 62 => ⟨S1024x8x3x6, .i32⟩
  | 63 => ⟨S1024x8x3x6x1, .i32⟩
  | 64 => ⟨S1024x8x3x6, .i32⟩
  | 65 => ⟨S1024x8x3x6x1, .i32⟩
  | 66 => ⟨S1024x8x3x6, .i32⟩
  | 67 => ⟨S1024x8x3x6x1, .i32⟩
  | 68 => ⟨S1024x8x3x6, .i32⟩
  | 69 => ⟨S1024x8x3x6x1, .i32⟩
  | 70 => ⟨S1024x8x3x6, .i32⟩
  | 71 => ⟨S1024x8x3x6x1, .i32⟩
  | 72 => ⟨S1024x8x3x6, .i32⟩
  | 73 => ⟨S_, .i32⟩
  | 74 => ⟨S1024x8x3x6, .i32⟩
  | 75 => ⟨S1024x8x3x6, .i32⟩
  | 76 => ⟨S1024x8x3x6x4, .i32⟩
  | 77 => ⟨S1024x8x3x6x4, .i32⟩
  | 78 => ⟨S_, .i32⟩
  | 79 => ⟨S1024x8x3x6x4, .i32⟩
  | 80 => ⟨S1024x8x3x6x4, .i32⟩
  | 81 => ⟨S1024x8x3x6x1, .i32⟩
  | 82 => ⟨S1024x8x3x6, .i32⟩
  | 83 => ⟨S1024x8x3x6x1, .i32⟩
  | 84 => ⟨S1024x8x3x6, .i32⟩
  | 85 => ⟨S_, .i32⟩
  | 86 => ⟨S1024x8x3x6, .i32⟩
  | 87 => ⟨S1024x8x3x6, .i1⟩
  | 88 => ⟨S_, .i32⟩
  | 89 => ⟨S1024x8x3x6, .i32⟩
  | 90 => ⟨S1024x8x3x6, .i32⟩
  | 91 => ⟨S1024x8x3x6, .i32⟩
  | 92 => ⟨S1024x8x3x6x1, .i32⟩
  | 93 => ⟨S1, .i32⟩
  | 94 => ⟨S_, .i32⟩
  | 95 => ⟨S1024x8x3x6x1, .i32⟩
  | 96 => ⟨S1024x8x3x6x1, .i1⟩
  | 97 => ⟨S1x1x1x1x1, .i32⟩
  | 98 => ⟨S1024x8x3x6x1, .i32⟩
  | 99 => ⟨S1024x8x3x6x1, .i1⟩
  | 100 => ⟨S1024x8x3x6x1, .i1⟩
  | 101 => ⟨S_, .i1⟩
  | 102 => ⟨S1024x8x3x6, .i1⟩
  | 103 => ⟨S1024x8x3x6x128, .f32⟩
  | 104 => ⟨S1024x8x3x6x128, .i1⟩
  | 105 => ⟨S_, .f32⟩
  | 106 => ⟨S1024x8x3x6x128, .f32⟩
  | 107 => ⟨S1024x8x3x6x128, .f32⟩
  | 108 => ⟨S1024x8x3x6x128, .f32⟩
  | 109 => ⟨S1x1x1x1x128, .f32⟩
  | 110 => ⟨S1024x8x3x6x128, .f32⟩
  | 111 => ⟨S1024x8x3x6x128, .f32⟩
  | 112 => ⟨S_, .i32⟩
  | 113 => ⟨S1024x8x3x6, .i32⟩
  | 114 => ⟨S1024x8x3x6, .i1⟩
  | 115 => ⟨S_, .i32⟩
  | 116 => ⟨S1024x8x3x6, .i32⟩
  | 117 => ⟨S1024x8x3x6, .i32⟩
  | 118 => ⟨S1024x8x3x6, .i32⟩
  | 119 => ⟨S1024x8x3x6x1, .i32⟩
  | 120 => ⟨S1, .i32⟩
  | 121 => ⟨S_, .i32⟩
  | 122 => ⟨S1024x8x3x6x1, .i32⟩
  | 123 => ⟨S1024x8x3x6x1, .i1⟩
  | 124 => ⟨S1x1x1x1x1, .i32⟩
  | 125 => ⟨S1024x8x3x6x1, .i32⟩
  | 126 => ⟨S1024x8x3x6x1, .i1⟩
  | 127 => ⟨S1024x8x3x6x1, .i1⟩
  | _ => ⟨S1024x8x3x6x36, .f32⟩

abbrev hbmTy0_1 (i : Nat) : BufTy := match i % 128 with
  | 0 => ⟨S_, .i1⟩
  | 1 => ⟨S1024x8x3x6, .i1⟩
  | 2 => ⟨S1024x8x3x6x27, .f32⟩
  | 3 => ⟨S1024x8x3x6x27, .i1⟩
  | 4 => ⟨S_, .f32⟩
  | 5 => ⟨S1024x8x3x6x27, .f32⟩
  | 6 => ⟨S1024x8x3x6x27, .f32⟩
  | 7 => ⟨S_, .i32⟩
  | 8 => ⟨S1024x8x3x6, .i32⟩
  | 9 => ⟨S1024x8x3x6, .i1⟩
  | 10 => ⟨S_, .i32⟩
  | 11 => ⟨S1024x8x3x6, .i32⟩
  | 12 => ⟨S1024x8x3x6, .i32⟩
  | 13 => ⟨S1024x8x3x6, .i32⟩
  | 14 => ⟨S1024x8x3x6x1, .i32⟩
  | 15 => ⟨S1, .i32⟩
  | 16 => ⟨S_, .i32⟩
  | 17 => ⟨S1024x8x3x6x1, .i32⟩
  | 18 => ⟨S1024x8x3x6x1, .i1⟩
  | 19 => ⟨S1x1x1x1x1, .i32⟩
  | 20 => ⟨S1024x8x3x6x1, .i32⟩
  | 21 => ⟨S1024x8x3x6x1, .i1⟩
  | 22 => ⟨S1024x8x3x6x1, .i1⟩
  | 23 => ⟨S_, .i1⟩
  | 24 => ⟨S1024x8x3x6, .i1⟩
  | 25 => ⟨S1024x8x3x6x27, .f32⟩
  | 26 => ⟨S1024x8x3x6x27, .i1⟩
  | 27 => ⟨S_, .f32⟩
  | 28 => ⟨S1024x8x3x6x27, .f32⟩
  | 29 => ⟨S1024x8x3x6x27, .f32⟩
  | 30 => ⟨S1024x8x3x6x1, .f32⟩
  | 31 => ⟨S_, .i32⟩
  | 32 => ⟨S1024x8x3x6x5, .i32⟩
  | 33 => ⟨S1024x8x3x6x5, .i1⟩
  | 34 => ⟨S_, .i32⟩
  | 35 => ⟨S1024x8x3x6x5, .i32⟩
  | 36 => ⟨S1024x8x3x6x5, .i32⟩
  | 37 => ⟨S1024x8x3x6x5, .i32⟩
  | 38 => ⟨S1024x8x3x6x5x1, .i32⟩
  | 39 => ⟨S1, .i32⟩
  | 40 => ⟨S_, .i32⟩
  | 41 => ⟨S1024x8x3x6x5x1, .i32⟩
  | 42 => ⟨S1024x8x3x6x5x1, .i1⟩
  | 43 => ⟨S1x1x1x1x1x1, .i32⟩
  | 44 => ⟨S1024x8x3x6x5x1, .i32⟩
  | 45 => ⟨S1024x8x3x6x5x1, .i1⟩
  | 46 => ⟨S1024x8x3x6x5x1, .i1⟩
  | 47 => ⟨S_, .i1⟩
  | 48 => ⟨S1024x8x3x6x5, .i1⟩
  | 49 => ⟨S1024x8x3x6x5x7, .f32⟩
  | 50 => ⟨S1024x8x3x6x5x7, .i1⟩
  | 51 => ⟨S_, .f32⟩
  | 52 => ⟨S1024x8x3x6x5x7, .f32⟩
  | 53 => ⟨S1024x8x3x6x5x7, .f32⟩
  | 54 => ⟨S1024x8x3x6x35, .f32⟩
  | 55 => ⟨S_, .i32⟩
  | 56 => ⟨S1024x8x3x6, .i32⟩
  | 57 => ⟨S1024x8x3x6, .i1⟩
  | 58 => ⟨S_, .i32⟩
  | 59 => ⟨S1024x8x3x6, .i32⟩
  | 60 => ⟨S1024x8x3x6, .i32⟩
  | 61 => ⟨S1024x8x3x6, .i32⟩
  | 62 => ⟨S1024x8x3x6x1, .i32⟩
  | 63 => ⟨S1, .i32⟩
  | 64 => ⟨S_, .i32⟩
  | 65 => ⟨S1024x8x3x6x1, .i32⟩
  | 66 => ⟨S1024x8x3x6x1, .i1⟩
  | 67 => ⟨S1x1x1x1x1, .i32⟩
  | 68 => ⟨S1024x8x3x6x1, .i32⟩
  | 69 => ⟨S1024x8x3x6x1, .i1⟩
  | 70 => ⟨S1024x8x3x6x1, .i1⟩
  | 71 => ⟨S_, .i1⟩
  | 72 => ⟨S1024x8x3x6, .i1⟩
  | 73 => ⟨S1024x8x3x6x64, .f32⟩
  | 74 => ⟨S1024x8x3x6x64, .i1⟩
  | 75 => ⟨S_, .f32⟩
  | 76 => ⟨S1024x8x3x6x64, .f32⟩
  | 77 => ⟨S1024x8x3x6x64, .f32⟩
  | 78 => ⟨S1024x8x3x6x128, .f32⟩
  | 79 => ⟨S1x1x1x1x128, .f32⟩
  | 80 => ⟨S1024x8x3x6x128, .f32⟩
  | 81 => ⟨S1024x8x3x6x128, .f32⟩
  | 82 => ⟨S_, .i32⟩
  | 83 => ⟨S1024x8x3x6, .i32⟩
  | 84 => ⟨S1024x8x3x6, .i1⟩
  | 85 => ⟨S_, .i32⟩
  | 86 => ⟨S1024x8x3x6, .i32⟩
  | 87 => ⟨S1024x8x3x6, .i32⟩
  | 88 => ⟨S1024x8x3x6, .i32⟩
  | 89 => ⟨S1024x8x3x6x1, .i32⟩
  | 90 => ⟨S1, .i32⟩
  | 91 => ⟨S_, .i32⟩
  | 92 => ⟨S1024x8x3x6x1, .i32⟩
  | 93 => ⟨S1024x8x3x6x1, .i1⟩
  | 94 => ⟨S1x1x1x1x1, .i32⟩
  | 95 => ⟨S1024x8x3x6x1, .i32⟩
  | 96 => ⟨S1024x8x3x6x1, .i1⟩
  | 97 => ⟨S1024x8x3x6x1, .i1⟩
  | 98 => ⟨S_, .i1⟩
  | 99 => ⟨S1024x8x3x6, .i1⟩
  | 100 => ⟨S1024x8x3x6x64, .f32⟩
  | 101 => ⟨S1024x8x3x6x64, .i1⟩
  | 102 => ⟨S_, .f32⟩
  | 103 => ⟨S1024x8x3x6x64, .f32⟩
  | 104 => ⟨S1024x8x3x6x64, .f32⟩
  | 105 => ⟨S_, .i32⟩
  | 106 => ⟨S1024x8x3x6, .i32⟩
  | 107 => ⟨S1024x8x3x6, .i1⟩
  | 108 => ⟨S_, .i32⟩
  | 109 => ⟨S1024x8x3x6, .i32⟩
  | 110 => ⟨S1024x8x3x6, .i32⟩
  | 111 => ⟨S1024x8x3x6, .i32⟩
  | 112 => ⟨S1024x8x3x6x1, .i32⟩
  | 113 => ⟨S1, .i32⟩
  | 114 => ⟨S_, .i32⟩
  | 115 => ⟨S1024x8x3x6x1, .i32⟩
  | 116 => ⟨S1024x8x3x6x1, .i1⟩
  | 117 => ⟨S1x1x1x1x1, .i32⟩
  | 118 => ⟨S1024x8x3x6x1, .i32⟩
  | 119 => ⟨S1024x8x3x6x1, .i1⟩
  | 120 => ⟨S1024x8x3x6x1, .i1⟩
  | 121 => ⟨S_, .i1⟩
  | 122 => ⟨S1024x8x3x6, .i1⟩
  | 123 => ⟨S1024x8x3x6x17, .f32⟩
  | 124 => ⟨S1024x8x3x6x17, .i1⟩
  | 125 => ⟨S_, .f32⟩
  | 126 => ⟨S1024x8x3x6x17, .f32⟩
  | 127 => ⟨S1024x8x3x6x17, .f32⟩
  | _ => ⟨S1024x8x3x6x36, .f32⟩

abbrev hbmTy0_2 (i : Nat) : BufTy := match i % 128 with
  | 0 => ⟨S1024x8x3x6x81, .f32⟩
  | 1 => ⟨S1024x8x3x6x128, .f32⟩
  | 2 => ⟨S1x1x1x1x128, .f32⟩
  | 3 => ⟨S1024x8x3x6x128, .f32⟩
  | 4 => ⟨S1024x8x3x6x128, .f32⟩
  | 5 => ⟨S_, .i32⟩
  | 6 => ⟨S1024x8x3x6, .i32⟩
  | 7 => ⟨S1024x8x3x6, .i1⟩
  | 8 => ⟨S_, .i32⟩
  | 9 => ⟨S1024x8x3x6, .i32⟩
  | 10 => ⟨S1024x8x3x6, .i32⟩
  | 11 => ⟨S1024x8x3x6, .i32⟩
  | 12 => ⟨S1024x8x3x6x1, .i32⟩
  | 13 => ⟨S1, .i32⟩
  | 14 => ⟨S_, .i32⟩
  | 15 => ⟨S1024x8x3x6x1, .i32⟩
  | 16 => ⟨S1024x8x3x6x1, .i1⟩
  | 17 => ⟨S1x1x1x1x1, .i32⟩
  | 18 => ⟨S1024x8x3x6x1, .i32⟩
  | 19 => ⟨S1024x8x3x6x1, .i1⟩
  | 20 => ⟨S1024x8x3x6x1, .i1⟩
  | 21 => ⟨S_, .i1⟩
  | 22 => ⟨S1024x8x3x6, .i1⟩
  | 23 => ⟨S1024x8x3x6x7, .f32⟩
  | 24 => ⟨S1024x8x3x6x7, .i1⟩
  | 25 => ⟨S_, .f32⟩
  | 26 => ⟨S1024x8x3x6x7, .f32⟩
  | 27 => ⟨S1024x8x3x6x7, .f32⟩
  | 28 => ⟨S_, .i32⟩
  | 29 => ⟨S1024x8x3x6, .i32⟩
  | 30 => ⟨S1024x8x3x6, .i1⟩
  | 31 => ⟨S_, .i32⟩
  | 32 => ⟨S1024x8x3x6, .i32⟩
  | 33 => ⟨S1024x8x3x6, .i32⟩
  | 34 => ⟨S1024x8x3x6, .i32⟩
  | 35 => ⟨S1024x8x3x6x1, .i32⟩
  | 36 => ⟨S1, .i32⟩
  | 37 => ⟨S_, .i32⟩
  | 38 => ⟨S1024x8x3x6x1, .i32⟩
  | 39 => ⟨S1024x8x3x6x1, .i1⟩
  | 40 => ⟨S1x1x1x1x1, .i32⟩
  | 41 => ⟨S1024x8x3x6x1, .i32⟩
  | 42 => ⟨S1024x8x3x6x1, .i1⟩
  | 43 => ⟨S1024x8x3x6x1, .i1⟩
  | 44 => ⟨S_, .i1⟩
  | 45 => ⟨S1024x8x3x6, .i1⟩
  | 46 => ⟨S1024x8x3x6x3, .f32⟩
  | 47 => ⟨S1024x8x3x6x3, .i1⟩
  | 48 => ⟨S_, .f32⟩
  | 49 => ⟨S1024x8x3x6x3, .f32⟩
  | 50 => ⟨S1024x8x3x6x3, .f32⟩
  | 51 => ⟨S_, .i32⟩
  | 52 => ⟨S1024x8x3x6, .i32⟩
  | 53 => ⟨S1024x8x3x6, .i1⟩
  | 54 => ⟨S_, .i32⟩
  | 55 => ⟨S1024x8x3x6, .i32⟩
  | 56 => ⟨S1024x8x3x6, .i32⟩
  | 57 => ⟨S1024x8x3x6, .i32⟩
  | 58 => ⟨S1024x8x3x6x1, .i32⟩
  | 59 => ⟨S1, .i32⟩
  | 60 => ⟨S_, .i32⟩
  | 61 => ⟨S1024x8x3x6x1, .i32⟩
  | 62 => ⟨S1024x8x3x6x1, .i1⟩
  | 63 => ⟨S1x1x1x1x1, .i32⟩
  | 64 => ⟨S1024x8x3x6x1, .i32⟩
  | 65 => ⟨S1024x8x3x6x1, .i1⟩
  | 66 => ⟨S1024x8x3x6x1, .i1⟩
  | 67 => ⟨S_, .i1⟩
  | 68 => ⟨S1024x8x3x6, .i1⟩
  | 69 => ⟨S1024x8x3x6x3, .f32⟩
  | 70 => ⟨S1024x8x3x6x3, .i1⟩
  | 71 => ⟨S_, .f32⟩
  | 72 => ⟨S1024x8x3x6x3, .f32⟩
  | 73 => ⟨S1024x8x3x6x3, .f32⟩
  | 74 => ⟨S_, .i32⟩
  | 75 => ⟨S1024x8x3x6x4, .i32⟩
  | 76 => ⟨S1024x8x3x6x4, .i1⟩
  | 77 => ⟨S_, .i32⟩
  | 78 => ⟨S1024x8x3x6x4, .i32⟩
  | 79 => ⟨S1024x8x3x6x4, .i32⟩
  | 80 => ⟨S1024x8x3x6x4, .i32⟩
  | 81 => ⟨S1024x8x3x6x4x1, .i32⟩
  | 82 => ⟨S1, .i32⟩
  | 83 => ⟨S_, .i32⟩
  | 84 => ⟨S1024x8x3x6x4x1, .i32⟩
  | 85 => ⟨S1024x8x3x6x4x1, .i1⟩
  | 86 => ⟨S1x1x1x1x1x1, .i32⟩
  | 87 => ⟨S1024x8x3x6x4x1, .i32⟩
  | 88 => ⟨S1024x8x3x6x4x1, .i1⟩
  | 89 => ⟨S1024x8x3x6x4x1, .i1⟩
  | 90 => ⟨S_, .i1⟩
  | 91 => ⟨S1024x8x3x6x4, .i1⟩
  | 92 => ⟨S1024x8x3x6x4x128, .f32⟩
  | 93 => ⟨S1024x8x3x6x4x128, .i1⟩
  | 94 => ⟨S_, .f32⟩
  | 95 => ⟨S1024x8x3x6x4x128, .f32⟩
  | 96 => ⟨S1024x8x3x6x4x128, .f32⟩
  | 97 => ⟨S_, .i32⟩
  | 98 => ⟨S1024x8x3x6x4, .i32⟩
  | 99 => ⟨S1024x8x3x6x4, .i1⟩
  | 100 => ⟨S_, .i32⟩
  | 101 => ⟨S1024x8x3x6x4, .i32⟩
  | 102 => ⟨S1024x8x3x6x4, .i32⟩
  | 103 => ⟨S1024x8x3x6x4, .i32⟩
  | 104 => ⟨S1024x8x3x6x4x1, .i32⟩
  | 105 => ⟨S1, .i32⟩
  | 106 => ⟨S_, .i32⟩
  | 107 => ⟨S1024x8x3x6x4x1, .i32⟩
  | 108 => ⟨S1024x8x3x6x4x1, .i1⟩
  | 109 => ⟨S1x1x1x1x1x1, .i32⟩
  | 110 => ⟨S1024x8x3x6x4x1, .i32⟩
  | 111 => ⟨S1024x8x3x6x4x1, .i1⟩
  | 112 => ⟨S1024x8x3x6x4x1, .i1⟩
  | 113 => ⟨S_, .i1⟩
  | 114 => ⟨S1024x8x3x6x4, .i1⟩
  | 115 => ⟨S1024x8x3x6x4x6, .f32⟩
  | 116 => ⟨S1024x8x3x6x4x6, .i1⟩
  | 117 => ⟨S_, .f32⟩
  | 118 => ⟨S1024x8x3x6x4x6, .f32⟩
  | 119 => ⟨S1024x8x3x6x4x6, .f32⟩
  | 120 => ⟨S1024x8x3x6x4x134, .f32⟩
  | 121 => ⟨S1024x8x3x6x4x128, .f32⟩
  | 122 => ⟨S1x1x1x1x1x128, .f32⟩
  | 123 => ⟨S1024x8x3x6x4x128, .f32⟩
  | 124 => ⟨S1024x8x3x6x4x128, .f32⟩
  | 125 => ⟨S_, .f32⟩
  | 126 => ⟨S1024x8x3x6x128, .f32⟩
  | 127 => ⟨S_, .i32⟩
  | _ => ⟨S1024x8x3x6x36, .f32⟩

abbrev hbmTy0_3 (i : Nat) : BufTy := match i % 128 with
  | 0 => ⟨S1024x8x3x6, .i32⟩
  | 1 => ⟨S1024x8x3x6, .i1⟩
  | 2 => ⟨S_, .i32⟩
  | 3 => ⟨S1024x8x3x6, .i32⟩
  | 4 => ⟨S1024x8x3x6, .i32⟩
  | 5 => ⟨S1024x8x3x6, .i32⟩
  | 6 => ⟨S1024x8x3x6x1, .i32⟩
  | 7 => ⟨S1, .i32⟩
  | 8 => ⟨S_, .i32⟩
  | 9 => ⟨S1024x8x3x6x1, .i32⟩
  | 10 => ⟨S1024x8x3x6x1, .i1⟩
  | 11 => ⟨S1x1x1x1x1, .i32⟩
  | 12 => ⟨S1024x8x3x6x1, .i32⟩
  | 13 => ⟨S1024x8x3x6x1, .i1⟩
  | 14 => ⟨S1024x8x3x6x1, .i1⟩
  | 15 => ⟨S_, .i1⟩
  | 16 => ⟨S1024x8x3x6, .i1⟩
  | 17 => ⟨S1024x8x3x6x128, .f32⟩
  | 18 => ⟨S1024x8x3x6x128, .i1⟩
  | 19 => ⟨S_, .f32⟩
  | 20 => ⟨S1024x8x3x6x128, .f32⟩
  | 21 => ⟨S1024x8x3x6x128, .f32⟩
  | 22 => ⟨S_, .i32⟩
  | 23 => ⟨S1024x8x3x6, .i32⟩
  | 24 => ⟨S1024x8x3x6, .i1⟩
  | 25 => ⟨S_, .i32⟩
  | 26 => ⟨S1024x8x3x6, .i32⟩
  | 27 => ⟨S1024x8x3x6, .i32⟩
  | 28 => ⟨S1024x8x3x6, .i32⟩
  | 29 => ⟨S1024x8x3x6x1, .i32⟩
  | 30 => ⟨S1, .i32⟩
  | 31 => ⟨S_, .i32⟩
  | 32 => ⟨S1024x8x3x6x1, .i32⟩
  | 33 => ⟨S1024x8x3x6x1, .i1⟩
  | 34 => ⟨S1x1x1x1x1, .i32⟩
  | 35 => ⟨S1024x8x3x6x1, .i32⟩
  | 36 => ⟨S1024x8x3x6x1, .i1⟩
  | 37 => ⟨S1024x8x3x6x1, .i1⟩
  | 38 => ⟨S_, .i1⟩
  | 39 => ⟨S1024x8x3x6, .i1⟩
  | 40 => ⟨S1024x8x3x6x6, .f32⟩
  | 41 => ⟨S1024x8x3x6x6, .i1⟩
  | 42 => ⟨S_, .f32⟩
  | 43 => ⟨S1024x8x3x6x6, .f32⟩
  | 44 => ⟨S1024x8x3x6x6, .f32⟩
  | 45 => ⟨S1024x8x3x6x134, .f32⟩
  | 46 => ⟨S1024x8x3x6x128, .f32⟩
  | 47 => ⟨S1x1x1x1x128, .f32⟩
  | 48 => ⟨S1024x8x3x6x128, .f32⟩
  | 49 => ⟨S1024x8x3x6x128, .f32⟩
  | 50 => ⟨S_, .i32⟩
  | 51 => ⟨S1024x8x3x6, .i32⟩
  | 52 => ⟨S_, .i32⟩
  | 53 => ⟨S1, .i32⟩
  | 54 => ⟨S_, .i32⟩
  | 55 => ⟨S1024x8x2x6, .i32⟩
  | 56 => ⟨S1024x8x3x6, .i32⟩
  | 57 => ⟨S_, .i32⟩
  | 58 => ⟨S1024x8x3x6, .i32⟩
  | 59 => ⟨S_, .i32⟩
  | 60 => ⟨S1, .i32⟩
  | 61 => ⟨S_, .i32⟩
  | 62 => ⟨S1024x8x2x6, .i32⟩
  | 63 => ⟨S1024x8x3x6, .i32⟩
  | 64 => ⟨S_, .i32⟩
  | 65 => ⟨S1024x8x3x6, .i32⟩
  | 66 => ⟨S1024x8x3x6, .i1⟩
  | 67 => ⟨S_, .i32⟩
  | 68 => ⟨S1024x8x3x6, .i32⟩
  | 69 => ⟨S1024x8x3x6, .i32⟩
  | 70 => ⟨S1024x8x3x6, .i32⟩
  | 71 => ⟨S1024x8x3x6x1, .i32⟩
  | 72 => ⟨S1, .i32⟩
  | 73 => ⟨S_, .i32⟩
  | 74 => ⟨S1024x8x3x6x1, .i32⟩
  | 75 => ⟨S1024x8x3x6x1, .i1⟩
  | 76 => ⟨S1x1x1x1x1, .i32⟩
  | 77 => ⟨S1024x8x3x6x1, .i32⟩
  | 78 => ⟨S1024x8x3x6x1, .i1⟩
  | 79 => ⟨S1024x8x3x6x1, .i1⟩
  | 80 => ⟨S_, .i1⟩
  | 81 => ⟨S1024x8x3x6, .i1⟩
  | 82 => ⟨S1024x8x3x6x15, .f32⟩
  | 83 => ⟨S1024x8x3x6x15, .i1⟩
  | 84 => ⟨S_, .f32⟩
  | 85 => ⟨S1024x8x3x6x15, .f32⟩
  | 86 => ⟨S1024x8x3x6x15, .f32⟩
  | 87 => ⟨S1024x8x3x6x90, .f32⟩
  | 88 => ⟨S_, .i32⟩
  | 89 => ⟨S1024x8x3x6, .i32⟩
  | 90 => ⟨S1024x8x3x6, .i1⟩
  | 91 => ⟨S_, .i32⟩
  | 92 => ⟨S1024x8x3x6, .i32⟩
  | 93 => ⟨S1024x8x3x6, .i32⟩
  | 94 => ⟨S1024x8x3x6, .i32⟩
  | 95 => ⟨S1024x8x3x6x1, .i32⟩
  | 96 => ⟨S1, .i32⟩
  | 97 => ⟨S_, .i32⟩
  | 98 => ⟨S1024x8x3x6x1, .i32⟩
  | 99 => ⟨S1024x8x3x6x1, .i1⟩
  | 100 => ⟨S1x1x1x1x1, .i32⟩
  | 101 => ⟨S1024x8x3x6x1, .i32⟩
  | 102 => ⟨S1024x8x3x6x1, .i1⟩
  | 103 => ⟨S1024x8x3x6x1, .i1⟩
  | 104 => ⟨S_, .i1⟩
  | 105 => ⟨S1024x8x3x6, .i1⟩
  | 106 => ⟨S1024x8x3x6x2, .f32⟩
  | 107 => ⟨S1024x8x3x6x2, .i1⟩
  | 108 => ⟨S_, .f32⟩
  | 109 => ⟨S1024x8x3x6x2, .f32⟩
  | 110 => ⟨S1024x8x3x6x2, .f32⟩
  | 111 => ⟨S_, .i32⟩
  | 112 => ⟨S1024x8x3x6, .i32⟩
  | 113 => ⟨S1024x8x3x6, .i1⟩
  | 114 => ⟨S_, .i32⟩
  | 115 => ⟨S1024x8x3x6, .i32⟩
  | 116 => ⟨S1024x8x3x6, .i32⟩
  | 117 => ⟨S1024x8x3x6, .i32⟩
  | 118 => ⟨S1024x8x3x6x1, .i32⟩
  | 119 => ⟨S1, .i32⟩
  | 120 => ⟨S_, .i32⟩
  | 121 => ⟨S1024x8x3x6x1, .i32⟩
  | 122 => ⟨S1024x8x3x6x1, .i1⟩
  | 123 => ⟨S1x1x1x1x1, .i32⟩
  | 124 => ⟨S1024x8x3x6x1, .i32⟩
  | 125 => ⟨S1024x8x3x6x1, .i1⟩
  | 126 => ⟨S1024x8x3x6x1, .i1⟩
  | 127 => ⟨S_, .i1⟩
  | _ => ⟨S1024x8x3x6x36, .f32⟩

abbrev hbmTy0_4 (i : Nat) : BufTy := match i % 128 with
  | 0 => ⟨S1024x8x3x6, .i1⟩
  | 1 => ⟨S1024x8x3x6x2, .f32⟩
  | 2 => ⟨S1024x8x3x6x2, .i1⟩
  | 3 => ⟨S_, .f32⟩
  | 4 => ⟨S1024x8x3x6x2, .f32⟩
  | 5 => ⟨S1024x8x3x6x2, .f32⟩
  | 6 => ⟨S_, .i32⟩
  | 7 => ⟨S1024x8x3x6, .i32⟩
  | 8 => ⟨S1024x8x3x6, .i1⟩
  | 9 => ⟨S_, .i32⟩
  | 10 => ⟨S1024x8x3x6, .i32⟩
  | 11 => ⟨S1024x8x3x6, .i32⟩
  | 12 => ⟨S1024x8x3x6, .i32⟩
  | 13 => ⟨S1024x8x3x6x1, .i32⟩
  | 14 => ⟨S1, .i32⟩
  | 15 => ⟨S_, .i32⟩
  | 16 => ⟨S1024x8x3x6x1, .i32⟩
  | 17 => ⟨S1024x8x3x6x1, .i1⟩
  | 18 => ⟨S1x1x1x1x1, .i32⟩
  | 19 => ⟨S1024x8x3x6x1, .i32⟩
  | 20 => ⟨S1024x8x3x6x1, .i1⟩
  | 21 => ⟨S1024x8x3x6x1, .i1⟩
  | 22 => ⟨S_, .i1⟩
  | 23 => ⟨S1024x8x3x6, .i1⟩
  | 24 => ⟨S1024x8x3x6x3, .f32⟩
  | 25 => ⟨S1024x8x3x6x3, .i1⟩
  | 26 => ⟨S_, .f32⟩
  | 27 => ⟨S1024x8x3x6x3, .f32⟩
  | 28 => ⟨S1024x8x3x6x3, .f32⟩
  | 29 => ⟨S_, .i32⟩
  | 30 => ⟨S1024x8x3x6, .i32⟩
  | 31 => ⟨S1024x8x3x6, .i32⟩
  | 32 => ⟨S_, .i32⟩
  | 33 => ⟨S1024x8x3x6, .i32⟩
  | 34 => ⟨S1024x8x3x6, .i32⟩
  | 35 => ⟨S_, .i32⟩
  | 36 => ⟨S1024x8x3x6, .i32⟩
  | 37 => ⟨S1024x8x3x6, .i1⟩
  | 38 => ⟨S_, .i32⟩
  | 39 => ⟨S1024x8x3x6, .i32⟩
  | 40 => ⟨S1024x8x3x6, .i32⟩
  | 41 => ⟨S1024x8x3x6, .i32⟩
  | 42 => ⟨S1024x8x3x6x1, .i32⟩
  | 43 => ⟨S1, .i32⟩
  | 44 => ⟨S_, .i32⟩
  | 45 => ⟨S1024x8x3x6x1, .i32⟩
  | 46 => ⟨S1024x8x3x6x1, .i1⟩
  | 47 => ⟨S1x1x1x1x1, .i32⟩
  | 48 => ⟨S1024x8x3x6x1, .i32⟩
  | 49 => ⟨S1024x8x3x6x1, .i1⟩
  | 50 => ⟨S1024x8x3x6x1, .i1⟩
  | 51 => ⟨S_, .i1⟩
  | 52 => ⟨S1024x8x3x6, .i1⟩
  | 53 => ⟨S1024x8x3x6x100, .f32⟩
  | 54 => ⟨S1024x8x3x6x100, .i1⟩
  | 55 => ⟨S_, .f32⟩
  | 56 => ⟨S1024x8x3x6x100, .f32⟩
  | 57 => ⟨S1024x8x3x6x100, .f32⟩
  | 58 => ⟨S1024x8x3x6x13, .f32⟩
  | 59 => ⟨S_, .i32⟩
  | 60 => ⟨S1024x8x3x6, .i32⟩
  | 61 => ⟨S1024x8x3x6, .i1⟩
  | 62 => ⟨S_, .i32⟩
  | 63 => ⟨S1024x8x3x6, .i32⟩
  | 64 => ⟨S1024x8x3x6, .i32⟩
  | 65 => ⟨S1024x8x3x6, .i32⟩
  | 66 => ⟨S1024x8x3x6x1, .i32⟩
  | 67 => ⟨S1, .i32⟩
  | 68 => ⟨S_, .i32⟩
  | 69 => ⟨S1024x8x3x6x1, .i32⟩
  | 70 => ⟨S1024x8x3x6x1, .i1⟩
  | 71 => ⟨S1x1x1x1x1, .i32⟩
  | 72 => ⟨S1024x8x3x6x1, .i32⟩
  | 73 => ⟨S1024x8x3x6x1, .i1⟩
  | 74 => ⟨S1024x8x3x6x1, .i1⟩
  | 75 => ⟨S_, .i1⟩
  | 76 => ⟨S1024x8x3x6, .i1⟩
  | 77 => ⟨S1024x8x3x6x2, .f32⟩
  | 78 => ⟨S1024x8x3x6x2, .i1⟩
  | 79 => ⟨S_, .f32⟩
  | 80 => ⟨S1024x8x3x6x2, .f32⟩
  | 81 => ⟨S1024x8x3x6x2, .f32⟩
  | 82 => ⟨S_, .i32⟩
  | 83 => ⟨S1024x8x3x6, .i32⟩
  | 84 => ⟨S1024x8x3x6, .i1⟩
  | 85 => ⟨S_, .i32⟩
  | 86 => ⟨S1024x8x3x6, .i32⟩
  | 87 => ⟨S1024x8x3x6, .i32⟩
  | 88 => ⟨S1024x8x3x6, .i32⟩
  | 89 => ⟨S1024x8x3x6x1, .i32⟩
  | 90 => ⟨S1, .i32⟩
  | 91 => ⟨S_, .i32⟩
  | 92 => ⟨S1024x8x3x6x1, .i32⟩
  | 93 => ⟨S1024x8x3x6x1, .i1⟩
  | 94 => ⟨S1x1x1x1x1, .i32⟩
  | 95 => ⟨S1024x8x3x6x1, .i32⟩
  | 96 => ⟨S1024x8x3x6x1, .i1⟩
  | 97 => ⟨S1024x8x3x6x1, .i1⟩
  | 98 => ⟨S_, .i1⟩
  | 99 => ⟨S1024x8x3x6, .i1⟩
  | 100 => ⟨S1024x8x3x6x2, .f32⟩
  | 101 => ⟨S1024x8x3x6x2, .i1⟩
  | 102 => ⟨S_, .f32⟩
  | 103 => ⟨S1024x8x3x6x2, .f32⟩
  | 104 => ⟨S1024x8x3x6x2, .f32⟩
  | 105 => ⟨S_, .i32⟩
  | 106 => ⟨S1024x8x3x6, .i32⟩
  | 107 => ⟨S1024x8x3x6, .i1⟩
  | 108 => ⟨S_, .i32⟩
  | 109 => ⟨S1024x8x3x6, .i32⟩
  | 110 => ⟨S1024x8x3x6, .i32⟩
  | 111 => ⟨S1024x8x3x6, .i32⟩
  | 112 => ⟨S1024x8x3x6x1, .i32⟩
  | 113 => ⟨S1, .i32⟩
  | 114 => ⟨S_, .i32⟩
  | 115 => ⟨S1024x8x3x6x1, .i32⟩
  | 116 => ⟨S1024x8x3x6x1, .i1⟩
  | 117 => ⟨S1x1x1x1x1, .i32⟩
  | 118 => ⟨S1024x8x3x6x1, .i32⟩
  | 119 => ⟨S1024x8x3x6x1, .i1⟩
  | 120 => ⟨S1024x8x3x6x1, .i1⟩
  | 121 => ⟨S_, .i1⟩
  | 122 => ⟨S1024x8x3x6, .i1⟩
  | 123 => ⟨S1024x8x3x6x19, .f32⟩
  | 124 => ⟨S1024x8x3x6x19, .i1⟩
  | 125 => ⟨S_, .f32⟩
  | 126 => ⟨S1024x8x3x6x19, .f32⟩
  | 127 => ⟨S1024x8x3x6x19, .f32⟩
  | _ => ⟨S1024x8x3x6x36, .f32⟩

abbrev hbmTy0_5 (i : Nat) : BufTy := match i % 128 with
  | 0 => ⟨S_, .i32⟩
  | 1 => ⟨S1024x8x3x6, .i32⟩
  | 2 => ⟨S1024x8x3x6, .i1⟩
  | 3 => ⟨S1024x8x3x6, .i32⟩
  | 4 => ⟨S_, .i32⟩
  | 5 => ⟨S1024x8x3x6, .i32⟩
  | 6 => ⟨S1024x8x3x6, .i1⟩
  | 7 => ⟨S_, .i32⟩
  | 8 => ⟨S1024x8x3x6, .i32⟩
  | 9 => ⟨S1024x8x3x6, .i32⟩
  | 10 => ⟨S1024x8x3x6, .i32⟩
  | 11 => ⟨S1024x8x3x6x1, .i32⟩
  | 12 => ⟨S1, .i32⟩
  | 13 => ⟨S_, .i32⟩
  | 14 => ⟨S1024x8x3x6x1, .i32⟩
  | 15 => ⟨S1024x8x3x6x1, .i1⟩
  | 16 => ⟨S1x1x1x1x1, .i32⟩
  | 17 => ⟨S1024x8x3x6x1, .i32⟩
  | 18 => ⟨S1024x8x3x6x1, .i1⟩
  | 19 => ⟨S1024x8x3x6x1, .i1⟩
  | 20 => ⟨S_, .i1⟩
  | 21 => ⟨S1024x8x3x6, .i1⟩
  | 22 => ⟨S1024x8x3x6x2, .f32⟩
  | 23 => ⟨S1024x8x3x6x2, .i1⟩
  | 24 => ⟨S_, .f32⟩
  | 25 => ⟨S1024x8x3x6x2, .f32⟩
  | 26 => ⟨S1024x8x3x6x2, .f32⟩
  | 27 => ⟨S1024x8x3x6x250, .f32⟩
  | 28 => ⟨S1024x8x3x6x128, .f32⟩
  | 29 => ⟨S1x1x1x1x128, .f32⟩
  | 30 => ⟨S1024x8x3x6x128, .f32⟩
  | 31 => ⟨S1024x8x3x6x128, .f32⟩
  | 32 => ⟨S1024x8x3x6x128, .f32⟩
  | 33 => ⟨S1024x8x3x6x128, .f32⟩
  | 34 => ⟨S1024x8x3x6x128, .f32⟩
  | 35 => ⟨S1024x8x3x6x128, .f32⟩
  | 36 => ⟨S_, .i32⟩
  | 37 => ⟨S1024x8x3x6, .i32⟩
  | 38 => ⟨S1024x8x3x6, .i1⟩
  | 39 => ⟨S1024x8x3x6x1, .i1⟩
  | 40 => ⟨S1024x8x3x6x1, .f32⟩
  | 41 => ⟨S1024x8x3x6x128, .f32⟩
  | 42 => ⟨S1024x8x3x6x128, .f32⟩
  | 43 => ⟨S1024x8x18x128, .f32⟩
  | 44 => ⟨S1024x8x18, .i1⟩
  | _ => ⟨S1024x8x3x6x36, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x8x3x6x36, .f32⟩

abbrev bufTy : (tb : Table) → Fin (tcTables nBuf tb) → BufTy
  | .hbm, ⟨i, _⟩ => hbmTy i
  | _, _ => ⟨S1024x8x3x6x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_cst_2 : Ref sig .tc := ⟨.hbm, 20, rfl⟩
abbrev main_cst_3 : Ref sig .tc := ⟨.hbm, 21, rfl⟩
abbrev main_cst_4 : Ref sig .tc := ⟨.hbm, 22, rfl⟩
abbrev main_cst_5 : Ref sig .tc := ⟨.hbm, 23, rfl⟩
abbrev main_cst_6 : Ref sig .tc := ⟨.hbm, 24, rfl⟩
abbrev main_cst_7 : Ref sig .tc := ⟨.hbm, 25, rfl⟩
abbrev main_cst_8 : Ref sig .tc := ⟨.hbm, 26, rfl⟩
abbrev main_cst_9 : Ref sig .tc := ⟨.hbm, 27, rfl⟩
abbrev main_cst_10 : Ref sig .tc := ⟨.hbm, 28, rfl⟩
abbrev main_cst_11 : Ref sig .tc := ⟨.hbm, 29, rfl⟩
abbrev main_cst_12 : Ref sig .tc := ⟨.hbm, 30, rfl⟩
abbrev main_cst_13 : Ref sig .tc := ⟨.hbm, 31, rfl⟩
abbrev main_cst_14 : Ref sig .tc := ⟨.hbm, 32, rfl⟩
abbrev main_cst_15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_16 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call0_c : Ref sig .tc := ⟨.hbm, 85, rfl⟩
abbrev main_call0_v0 : Ref sig .tc := ⟨.hbm, 86, rfl⟩
abbrev main_call0_v1 : Ref sig .tc := ⟨.hbm, 87, rfl⟩
abbrev main_call0_c_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_c_1 : Ref sig .tc := ⟨.hbm, 93, rfl⟩
abbrev main_call0_c_2 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_3 : Ref sig .tc := ⟨.hbm, 101, rfl⟩
abbrev main_call0_v12 : Ref sig .tc := ⟨.hbm, 102, rfl⟩
abbrev main_call0_v13 : Ref sig .tc := ⟨.hbm, 103, rfl⟩
abbrev main_call0_v14 : Ref sig .tc := ⟨.hbm, 104, rfl⟩
abbrev main_call0_cst : Ref sig .tc := ⟨.hbm, 105, rfl⟩
abbrev main_call0_v15 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_call1_c : Ref sig .tc := ⟨.hbm, 112, rfl⟩
abbrev main_call1_v0 : Ref sig .tc := ⟨.hbm, 113, rfl⟩
abbrev main_call1_v1 : Ref sig .tc := ⟨.hbm, 114, rfl⟩
abbrev main_call1_c_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_c_1 : Ref sig .tc := ⟨.hbm, 120, rfl⟩
abbrev main_call1_c_2 : Ref sig .tc := ⟨.hbm, 121, rfl⟩
abbrev main_call1_v6 : Ref sig .tc := ⟨.hbm, 122, rfl⟩
abbrev main_call1_v7 : Ref sig .tc := ⟨.hbm, 123, rfl⟩
abbrev main_call1_v8 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_c_3 : Ref sig .tc := ⟨.hbm, 128, rfl⟩
abbrev main_call1_v12 : Ref sig .tc := ⟨.hbm, 129, rfl⟩
abbrev main_call1_v13 : Ref sig .tc := ⟨.hbm, 130, rfl⟩
abbrev main_call1_v14 : Ref sig .tc := ⟨.hbm, 131, rfl⟩
abbrev main_call1_cst : Ref sig .tc := ⟨.hbm, 132, rfl⟩
abbrev main_call1_v15 : Ref sig .tc := ⟨.hbm, 133, rfl⟩
abbrev main_v54 : Ref sig .tc := ⟨.hbm, 134, rfl⟩
abbrev main_call2_c : Ref sig .tc := ⟨.hbm, 135, rfl⟩
abbrev main_call2_v0 : Ref sig .tc := ⟨.hbm, 136, rfl⟩
abbrev main_call2_v1 : Ref sig .tc := ⟨.hbm, 137, rfl⟩
abbrev main_call2_c_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_c_1 : Ref sig .tc := ⟨.hbm, 143, rfl⟩
abbrev main_call2_c_2 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_c_3 : Ref sig .tc := ⟨.hbm, 151, rfl⟩
abbrev main_call2_v12 : Ref sig .tc := ⟨.hbm, 152, rfl⟩
abbrev main_call2_v13 : Ref sig .tc := ⟨.hbm, 153, rfl⟩
abbrev main_call2_v14 : Ref sig .tc := ⟨.hbm, 154, rfl⟩
abbrev main_call2_cst : Ref sig .tc := ⟨.hbm, 155, rfl⟩
abbrev main_call2_v15 : Ref sig .tc := ⟨.hbm, 156, rfl⟩
abbrev main_v55 : Ref sig .tc := ⟨.hbm, 157, rfl⟩
abbrev main_v56 : Ref sig .tc := ⟨.hbm, 158, rfl⟩
abbrev main_call3_c : Ref sig .tc := ⟨.hbm, 159, rfl⟩
abbrev main_call3_v0 : Ref sig .tc := ⟨.hbm, 160, rfl⟩
abbrev main_call3_v1 : Ref sig .tc := ⟨.hbm, 161, rfl⟩
abbrev main_call3_c_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_c_1 : Ref sig .tc := ⟨.hbm, 167, rfl⟩
abbrev main_call3_c_2 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_c_3 : Ref sig .tc := ⟨.hbm, 175, rfl⟩
abbrev main_call3_v12 : Ref sig .tc := ⟨.hbm, 176, rfl⟩
abbrev main_call3_v13 : Ref sig .tc := ⟨.hbm, 177, rfl⟩
abbrev main_call3_v14 : Ref sig .tc := ⟨.hbm, 178, rfl⟩
abbrev main_call3_cst : Ref sig .tc := ⟨.hbm, 179, rfl⟩
abbrev main_call3_v15 : Ref sig .tc := ⟨.hbm, 180, rfl⟩
abbrev main_v57 : Ref sig .tc := ⟨.hbm, 181, rfl⟩
abbrev main_v58 : Ref sig .tc := ⟨.hbm, 182, rfl⟩
abbrev main_call4_c : Ref sig .tc := ⟨.hbm, 183, rfl⟩
abbrev main_call4_v0 : Ref sig .tc := ⟨.hbm, 184, rfl⟩
abbrev main_call4_v1 : Ref sig .tc := ⟨.hbm, 185, rfl⟩
abbrev main_call4_c_0 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_call4_v5 : Ref sig .tc := ⟨.hbm, 190, rfl⟩
abbrev main_call4_c_1 : Ref sig .tc := ⟨.hbm, 191, rfl⟩
abbrev main_call4_c_2 : Ref sig .tc := ⟨.hbm, 192, rfl⟩
abbrev main_call4_v6 : Ref sig .tc := ⟨.hbm, 193, rfl⟩
abbrev main_call4_v7 : Ref sig .tc := ⟨.hbm, 194, rfl⟩
abbrev main_call4_v8 : Ref sig .tc := ⟨.hbm, 195, rfl⟩
abbrev main_call4_v9 : Ref sig .tc := ⟨.hbm, 196, rfl⟩
abbrev main_call4_v10 : Ref sig .tc := ⟨.hbm, 197, rfl⟩
abbrev main_call4_v11 : Ref sig .tc := ⟨.hbm, 198, rfl⟩
abbrev main_call4_c_3 : Ref sig .tc := ⟨.hbm, 199, rfl⟩
abbrev main_call4_v12 : Ref sig .tc := ⟨.hbm, 200, rfl⟩
abbrev main_call4_v13 : Ref sig .tc := ⟨.hbm, 201, rfl⟩
abbrev main_call4_v14 : Ref sig .tc := ⟨.hbm, 202, rfl⟩
abbrev main_call4_cst : Ref sig .tc := ⟨.hbm, 203, rfl⟩
abbrev main_call4_v15 : Ref sig .tc := ⟨.hbm, 204, rfl⟩
abbrev main_v59 : Ref sig .tc := ⟨.hbm, 205, rfl⟩
abbrev main_v60 : Ref sig .tc := ⟨.hbm, 206, rfl⟩
abbrev main_v61 : Ref sig .tc := ⟨.hbm, 207, rfl⟩
abbrev main_v62 : Ref sig .tc := ⟨.hbm, 208, rfl⟩
abbrev main_v63 : Ref sig .tc := ⟨.hbm, 209, rfl⟩
abbrev main_call5_c : Ref sig .tc := ⟨.hbm, 210, rfl⟩
abbrev main_call5_v0 : Ref sig .tc := ⟨.hbm, 211, rfl⟩
abbrev main_call5_v1 : Ref sig .tc := ⟨.hbm, 212, rfl⟩
abbrev main_call5_c_0 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_call5_v5 : Ref sig .tc := ⟨.hbm, 217, rfl⟩
abbrev main_call5_c_1 : Ref sig .tc := ⟨.hbm, 218, rfl⟩
abbrev main_call5_c_2 : Ref sig .tc := ⟨.hbm, 219, rfl⟩
abbrev main_call5_v6 : Ref sig .tc := ⟨.hbm, 220, rfl⟩
abbrev main_call5_v7 : Ref sig .tc := ⟨.hbm, 221, rfl⟩
abbrev main_call5_v8 : Ref sig .tc := ⟨.hbm, 222, rfl⟩
abbrev main_call5_v9 : Ref sig .tc := ⟨.hbm, 223, rfl⟩
abbrev main_call5_v10 : Ref sig .tc := ⟨.hbm, 224, rfl⟩
abbrev main_call5_v11 : Ref sig .tc := ⟨.hbm, 225, rfl⟩
abbrev main_call5_c_3 : Ref sig .tc := ⟨.hbm, 226, rfl⟩
abbrev main_call5_v12 : Ref sig .tc := ⟨.hbm, 227, rfl⟩
abbrev main_call5_v13 : Ref sig .tc := ⟨.hbm, 228, rfl⟩
abbrev main_call5_v14 : Ref sig .tc := ⟨.hbm, 229, rfl⟩
abbrev main_call5_cst : Ref sig .tc := ⟨.hbm, 230, rfl⟩
abbrev main_call5_v15 : Ref sig .tc := ⟨.hbm, 231, rfl⟩
abbrev main_v64 : Ref sig .tc := ⟨.hbm, 232, rfl⟩
abbrev main_call6_c : Ref sig .tc := ⟨.hbm, 233, rfl⟩
abbrev main_call6_v0 : Ref sig .tc := ⟨.hbm, 234, rfl⟩
abbrev main_call6_v1 : Ref sig .tc := ⟨.hbm, 235, rfl⟩
abbrev main_call6_c_0 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_call6_v5 : Ref sig .tc := ⟨.hbm, 240, rfl⟩
abbrev main_call6_c_1 : Ref sig .tc := ⟨.hbm, 241, rfl⟩
abbrev main_call6_c_2 : Ref sig .tc := ⟨.hbm, 242, rfl⟩
abbrev main_call6_v6 : Ref sig .tc := ⟨.hbm, 243, rfl⟩
abbrev main_call6_v7 : Ref sig .tc := ⟨.hbm, 244, rfl⟩
abbrev main_call6_v8 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_c_3 : Ref sig .tc := ⟨.hbm, 249, rfl⟩
abbrev main_call6_v12 : Ref sig .tc := ⟨.hbm, 250, rfl⟩
abbrev main_call6_v13 : Ref sig .tc := ⟨.hbm, 251, rfl⟩
abbrev main_call6_v14 : Ref sig .tc := ⟨.hbm, 252, rfl⟩
abbrev main_call6_cst : Ref sig .tc := ⟨.hbm, 253, rfl⟩
abbrev main_call6_v15 : Ref sig .tc := ⟨.hbm, 254, rfl⟩
abbrev main_v65 : Ref sig .tc := ⟨.hbm, 255, rfl⟩
abbrev main_v66 : Ref sig .tc := ⟨.hbm, 256, rfl⟩
abbrev main_v67 : Ref sig .tc := ⟨.hbm, 257, rfl⟩
abbrev main_v68 : Ref sig .tc := ⟨.hbm, 258, rfl⟩
abbrev main_v69 : Ref sig .tc := ⟨.hbm, 259, rfl⟩
abbrev main_v70 : Ref sig .tc := ⟨.hbm, 260, rfl⟩
abbrev main_call7_c : Ref sig .tc := ⟨.hbm, 261, rfl⟩
abbrev main_call7_v0 : Ref sig .tc := ⟨.hbm, 262, rfl⟩
abbrev main_call7_v1 : Ref sig .tc := ⟨.hbm, 263, rfl⟩
abbrev main_call7_c_0 : Ref sig .tc := ⟨.hbm, 264, rfl⟩
abbrev main_call7_v2 : Ref sig .tc := ⟨.hbm, 265, rfl⟩
abbrev main_call7_v3 : Ref sig .tc := ⟨.hbm, 266, rfl⟩
abbrev main_call7_v4 : Ref sig .tc := ⟨.hbm, 267, rfl⟩
abbrev main_call7_v5 : Ref sig .tc := ⟨.hbm, 268, rfl⟩
abbrev main_call7_c_1 : Ref sig .tc := ⟨.hbm, 269, rfl⟩
abbrev main_call7_c_2 : Ref sig .tc := ⟨.hbm, 270, rfl⟩
abbrev main_call7_v6 : Ref sig .tc := ⟨.hbm, 271, rfl⟩
abbrev main_call7_v7 : Ref sig .tc := ⟨.hbm, 272, rfl⟩
abbrev main_call7_v8 : Ref sig .tc := ⟨.hbm, 273, rfl⟩
abbrev main_call7_v9 : Ref sig .tc := ⟨.hbm, 274, rfl⟩
abbrev main_call7_v10 : Ref sig .tc := ⟨.hbm, 275, rfl⟩
abbrev main_call7_v11 : Ref sig .tc := ⟨.hbm, 276, rfl⟩
abbrev main_call7_c_3 : Ref sig .tc := ⟨.hbm, 277, rfl⟩
abbrev main_call7_v12 : Ref sig .tc := ⟨.hbm, 278, rfl⟩
abbrev main_call7_v13 : Ref sig .tc := ⟨.hbm, 279, rfl⟩
abbrev main_call7_v14 : Ref sig .tc := ⟨.hbm, 280, rfl⟩
abbrev main_call7_cst : Ref sig .tc := ⟨.hbm, 281, rfl⟩
abbrev main_call7_v15 : Ref sig .tc := ⟨.hbm, 282, rfl⟩
abbrev main_v71 : Ref sig .tc := ⟨.hbm, 283, rfl⟩
abbrev main_call8_c : Ref sig .tc := ⟨.hbm, 284, rfl⟩
abbrev main_call8_v0 : Ref sig .tc := ⟨.hbm, 285, rfl⟩
abbrev main_call8_v1 : Ref sig .tc := ⟨.hbm, 286, rfl⟩
abbrev main_call8_c_0 : Ref sig .tc := ⟨.hbm, 287, rfl⟩
abbrev main_call8_v2 : Ref sig .tc := ⟨.hbm, 288, rfl⟩
abbrev main_call8_v3 : Ref sig .tc := ⟨.hbm, 289, rfl⟩
abbrev main_call8_v4 : Ref sig .tc := ⟨.hbm, 290, rfl⟩
abbrev main_call8_v5 : Ref sig .tc := ⟨.hbm, 291, rfl⟩
abbrev main_call8_c_1 : Ref sig .tc := ⟨.hbm, 292, rfl⟩
abbrev main_call8_c_2 : Ref sig .tc := ⟨.hbm, 293, rfl⟩
abbrev main_call8_v6 : Ref sig .tc := ⟨.hbm, 294, rfl⟩
abbrev main_call8_v7 : Ref sig .tc := ⟨.hbm, 295, rfl⟩
abbrev main_call8_v8 : Ref sig .tc := ⟨.hbm, 296, rfl⟩
abbrev main_call8_v9 : Ref sig .tc := ⟨.hbm, 297, rfl⟩
abbrev main_call8_v10 : Ref sig .tc := ⟨.hbm, 298, rfl⟩
abbrev main_call8_v11 : Ref sig .tc := ⟨.hbm, 299, rfl⟩
abbrev main_call8_c_3 : Ref sig .tc := ⟨.hbm, 300, rfl⟩
abbrev main_call8_v12 : Ref sig .tc := ⟨.hbm, 301, rfl⟩
abbrev main_call8_v13 : Ref sig .tc := ⟨.hbm, 302, rfl⟩
abbrev main_call8_v14 : Ref sig .tc := ⟨.hbm, 303, rfl⟩
abbrev main_call8_cst : Ref sig .tc := ⟨.hbm, 304, rfl⟩
abbrev main_call8_v15 : Ref sig .tc := ⟨.hbm, 305, rfl⟩
abbrev main_v72 : Ref sig .tc := ⟨.hbm, 306, rfl⟩
abbrev main_call9_c : Ref sig .tc := ⟨.hbm, 307, rfl⟩
abbrev main_call9_v0 : Ref sig .tc := ⟨.hbm, 308, rfl⟩
abbrev main_call9_v1 : Ref sig .tc := ⟨.hbm, 309, rfl⟩
abbrev main_call9_c_0 : Ref sig .tc := ⟨.hbm, 310, rfl⟩
abbrev main_call9_v2 : Ref sig .tc := ⟨.hbm, 311, rfl⟩
abbrev main_call9_v3 : Ref sig .tc := ⟨.hbm, 312, rfl⟩
abbrev main_call9_v4 : Ref sig .tc := ⟨.hbm, 313, rfl⟩
abbrev main_call9_v5 : Ref sig .tc := ⟨.hbm, 314, rfl⟩
abbrev main_call9_c_1 : Ref sig .tc := ⟨.hbm, 315, rfl⟩
abbrev main_call9_c_2 : Ref sig .tc := ⟨.hbm, 316, rfl⟩
abbrev main_call9_v6 : Ref sig .tc := ⟨.hbm, 317, rfl⟩
abbrev main_call9_v7 : Ref sig .tc := ⟨.hbm, 318, rfl⟩
abbrev main_call9_v8 : Ref sig .tc := ⟨.hbm, 319, rfl⟩
abbrev main_call9_v9 : Ref sig .tc := ⟨.hbm, 320, rfl⟩
abbrev main_call9_v10 : Ref sig .tc := ⟨.hbm, 321, rfl⟩
abbrev main_call9_v11 : Ref sig .tc := ⟨.hbm, 322, rfl⟩
abbrev main_call9_c_3 : Ref sig .tc := ⟨.hbm, 323, rfl⟩
abbrev main_call9_v12 : Ref sig .tc := ⟨.hbm, 324, rfl⟩
abbrev main_call9_v13 : Ref sig .tc := ⟨.hbm, 325, rfl⟩
abbrev main_call9_v14 : Ref sig .tc := ⟨.hbm, 326, rfl⟩
abbrev main_call9_cst : Ref sig .tc := ⟨.hbm, 327, rfl⟩
abbrev main_call9_v15 : Ref sig .tc := ⟨.hbm, 328, rfl⟩
abbrev main_v73 : Ref sig .tc := ⟨.hbm, 329, rfl⟩
abbrev main_call10_c : Ref sig .tc := ⟨.hbm, 330, rfl⟩
abbrev main_call10_v0 : Ref sig .tc := ⟨.hbm, 331, rfl⟩
abbrev main_call10_v1 : Ref sig .tc := ⟨.hbm, 332, rfl⟩
abbrev main_call10_c_0 : Ref sig .tc := ⟨.hbm, 333, rfl⟩
abbrev main_call10_v2 : Ref sig .tc := ⟨.hbm, 334, rfl⟩
abbrev main_call10_v3 : Ref sig .tc := ⟨.hbm, 335, rfl⟩
abbrev main_call10_v4 : Ref sig .tc := ⟨.hbm, 336, rfl⟩
abbrev main_call10_v5 : Ref sig .tc := ⟨.hbm, 337, rfl⟩
abbrev main_call10_c_1 : Ref sig .tc := ⟨.hbm, 338, rfl⟩
abbrev main_call10_c_2 : Ref sig .tc := ⟨.hbm, 339, rfl⟩
abbrev main_call10_v6 : Ref sig .tc := ⟨.hbm, 340, rfl⟩
abbrev main_call10_v7 : Ref sig .tc := ⟨.hbm, 341, rfl⟩
abbrev main_call10_v8 : Ref sig .tc := ⟨.hbm, 342, rfl⟩
abbrev main_call10_v9 : Ref sig .tc := ⟨.hbm, 343, rfl⟩
abbrev main_call10_v10 : Ref sig .tc := ⟨.hbm, 344, rfl⟩
abbrev main_call10_v11 : Ref sig .tc := ⟨.hbm, 345, rfl⟩
abbrev main_call10_c_3 : Ref sig .tc := ⟨.hbm, 346, rfl⟩
abbrev main_call10_v12 : Ref sig .tc := ⟨.hbm, 347, rfl⟩
abbrev main_call10_v13 : Ref sig .tc := ⟨.hbm, 348, rfl⟩
abbrev main_call10_v14 : Ref sig .tc := ⟨.hbm, 349, rfl⟩
abbrev main_call10_cst : Ref sig .tc := ⟨.hbm, 350, rfl⟩
abbrev main_call10_v15 : Ref sig .tc := ⟨.hbm, 351, rfl⟩
abbrev main_v74 : Ref sig .tc := ⟨.hbm, 352, rfl⟩
abbrev main_call11_c : Ref sig .tc := ⟨.hbm, 353, rfl⟩
abbrev main_call11_v0 : Ref sig .tc := ⟨.hbm, 354, rfl⟩
abbrev main_call11_v1 : Ref sig .tc := ⟨.hbm, 355, rfl⟩
abbrev main_call11_c_0 : Ref sig .tc := ⟨.hbm, 356, rfl⟩
abbrev main_call11_v2 : Ref sig .tc := ⟨.hbm, 357, rfl⟩
abbrev main_call11_v3 : Ref sig .tc := ⟨.hbm, 358, rfl⟩
abbrev main_call11_v4 : Ref sig .tc := ⟨.hbm, 359, rfl⟩
abbrev main_call11_v5 : Ref sig .tc := ⟨.hbm, 360, rfl⟩
abbrev main_call11_c_1 : Ref sig .tc := ⟨.hbm, 361, rfl⟩
abbrev main_call11_c_2 : Ref sig .tc := ⟨.hbm, 362, rfl⟩
abbrev main_call11_v6 : Ref sig .tc := ⟨.hbm, 363, rfl⟩
abbrev main_call11_v7 : Ref sig .tc := ⟨.hbm, 364, rfl⟩
abbrev main_call11_v8 : Ref sig .tc := ⟨.hbm, 365, rfl⟩
abbrev main_call11_v9 : Ref sig .tc := ⟨.hbm, 366, rfl⟩
abbrev main_call11_v10 : Ref sig .tc := ⟨.hbm, 367, rfl⟩
abbrev main_call11_v11 : Ref sig .tc := ⟨.hbm, 368, rfl⟩
abbrev main_call11_c_3 : Ref sig .tc := ⟨.hbm, 369, rfl⟩
abbrev main_call11_v12 : Ref sig .tc := ⟨.hbm, 370, rfl⟩
abbrev main_call11_v13 : Ref sig .tc := ⟨.hbm, 371, rfl⟩
abbrev main_call11_v14 : Ref sig .tc := ⟨.hbm, 372, rfl⟩
abbrev main_call11_cst : Ref sig .tc := ⟨.hbm, 373, rfl⟩
abbrev main_call11_v15 : Ref sig .tc := ⟨.hbm, 374, rfl⟩
abbrev main_v75 : Ref sig .tc := ⟨.hbm, 375, rfl⟩
abbrev main_v76 : Ref sig .tc := ⟨.hbm, 376, rfl⟩
abbrev main_v77 : Ref sig .tc := ⟨.hbm, 377, rfl⟩
abbrev main_v78 : Ref sig .tc := ⟨.hbm, 378, rfl⟩
abbrev main_v79 : Ref sig .tc := ⟨.hbm, 379, rfl⟩
abbrev main_v80 : Ref sig .tc := ⟨.hbm, 380, rfl⟩
abbrev main_cst_17 : Ref sig .tc := ⟨.hbm, 381, rfl⟩
abbrev main_v81 : Ref sig .tc := ⟨.hbm, 382, rfl⟩
abbrev main_call12_c : Ref sig .tc := ⟨.hbm, 383, rfl⟩
abbrev main_call12_v0 : Ref sig .tc := ⟨.hbm, 384, rfl⟩
abbrev main_call12_v1 : Ref sig .tc := ⟨.hbm, 385, rfl⟩
abbrev main_call12_c_0 : Ref sig .tc := ⟨.hbm, 386, rfl⟩
abbrev main_call12_v2 : Ref sig .tc := ⟨.hbm, 387, rfl⟩
abbrev main_call12_v3 : Ref sig .tc := ⟨.hbm, 388, rfl⟩
abbrev main_call12_v4 : Ref sig .tc := ⟨.hbm, 389, rfl⟩
abbrev main_call12_v5 : Ref sig .tc := ⟨.hbm, 390, rfl⟩
abbrev main_call12_c_1 : Ref sig .tc := ⟨.hbm, 391, rfl⟩
abbrev main_call12_c_2 : Ref sig .tc := ⟨.hbm, 392, rfl⟩
abbrev main_call12_v6 : Ref sig .tc := ⟨.hbm, 393, rfl⟩
abbrev main_call12_v7 : Ref sig .tc := ⟨.hbm, 394, rfl⟩
abbrev main_call12_v8 : Ref sig .tc := ⟨.hbm, 395, rfl⟩
abbrev main_call12_v9 : Ref sig .tc := ⟨.hbm, 396, rfl⟩
abbrev main_call12_v10 : Ref sig .tc := ⟨.hbm, 397, rfl⟩
abbrev main_call12_v11 : Ref sig .tc := ⟨.hbm, 398, rfl⟩
abbrev main_call12_c_3 : Ref sig .tc := ⟨.hbm, 399, rfl⟩
abbrev main_call12_v12 : Ref sig .tc := ⟨.hbm, 400, rfl⟩
abbrev main_call12_v13 : Ref sig .tc := ⟨.hbm, 401, rfl⟩
abbrev main_call12_v14 : Ref sig .tc := ⟨.hbm, 402, rfl⟩
abbrev main_call12_cst : Ref sig .tc := ⟨.hbm, 403, rfl⟩
abbrev main_call12_v15 : Ref sig .tc := ⟨.hbm, 404, rfl⟩
abbrev main_v82 : Ref sig .tc := ⟨.hbm, 405, rfl⟩
abbrev main_call13_c : Ref sig .tc := ⟨.hbm, 406, rfl⟩
abbrev main_call13_v0 : Ref sig .tc := ⟨.hbm, 407, rfl⟩
abbrev main_call13_v1 : Ref sig .tc := ⟨.hbm, 408, rfl⟩
abbrev main_call13_c_0 : Ref sig .tc := ⟨.hbm, 409, rfl⟩
abbrev main_call13_v2 : Ref sig .tc := ⟨.hbm, 410, rfl⟩
abbrev main_call13_v3 : Ref sig .tc := ⟨.hbm, 411, rfl⟩
abbrev main_call13_v4 : Ref sig .tc := ⟨.hbm, 412, rfl⟩
abbrev main_call13_v5 : Ref sig .tc := ⟨.hbm, 413, rfl⟩
abbrev main_call13_c_1 : Ref sig .tc := ⟨.hbm, 414, rfl⟩
abbrev main_call13_c_2 : Ref sig .tc := ⟨.hbm, 415, rfl⟩
abbrev main_call13_v6 : Ref sig .tc := ⟨.hbm, 416, rfl⟩
abbrev main_call13_v7 : Ref sig .tc := ⟨.hbm, 417, rfl⟩
abbrev main_call13_v8 : Ref sig .tc := ⟨.hbm, 418, rfl⟩
abbrev main_call13_v9 : Ref sig .tc := ⟨.hbm, 419, rfl⟩
abbrev main_call13_v10 : Ref sig .tc := ⟨.hbm, 420, rfl⟩
abbrev main_call13_v11 : Ref sig .tc := ⟨.hbm, 421, rfl⟩
abbrev main_call13_c_3 : Ref sig .tc := ⟨.hbm, 422, rfl⟩
abbrev main_call13_v12 : Ref sig .tc := ⟨.hbm, 423, rfl⟩
abbrev main_call13_v13 : Ref sig .tc := ⟨.hbm, 424, rfl⟩
abbrev main_call13_v14 : Ref sig .tc := ⟨.hbm, 425, rfl⟩
abbrev main_call13_cst : Ref sig .tc := ⟨.hbm, 426, rfl⟩
abbrev main_call13_v15 : Ref sig .tc := ⟨.hbm, 427, rfl⟩
abbrev main_v83 : Ref sig .tc := ⟨.hbm, 428, rfl⟩
abbrev main_v84 : Ref sig .tc := ⟨.hbm, 429, rfl⟩
abbrev main_v85 : Ref sig .tc := ⟨.hbm, 430, rfl⟩
abbrev main_v86 : Ref sig .tc := ⟨.hbm, 431, rfl⟩
abbrev main_v87 : Ref sig .tc := ⟨.hbm, 432, rfl⟩
abbrev main_v88 : Ref sig .tc := ⟨.hbm, 433, rfl⟩
abbrev main_c_18 : Ref sig .tc := ⟨.hbm, 434, rfl⟩
abbrev main_v89 : Ref sig .tc := ⟨.hbm, 435, rfl⟩
abbrev main_c_19 : Ref sig .tc := ⟨.hbm, 436, rfl⟩
abbrev main_v90 : Ref sig .tc := ⟨.hbm, 437, rfl⟩
abbrev main_c_20 : Ref sig .tc := ⟨.hbm, 438, rfl⟩
abbrev main_v91 : Ref sig .tc := ⟨.hbm, 439, rfl⟩
abbrev main_v92 : Ref sig .tc := ⟨.hbm, 440, rfl⟩
abbrev main_c_21 : Ref sig .tc := ⟨.hbm, 441, rfl⟩
abbrev main_v93 : Ref sig .tc := ⟨.hbm, 442, rfl⟩
abbrev main_c_22 : Ref sig .tc := ⟨.hbm, 443, rfl⟩
abbrev main_v94 : Ref sig .tc := ⟨.hbm, 444, rfl⟩
abbrev main_c_23 : Ref sig .tc := ⟨.hbm, 445, rfl⟩
abbrev main_v95 : Ref sig .tc := ⟨.hbm, 446, rfl⟩
abbrev main_v96 : Ref sig .tc := ⟨.hbm, 447, rfl⟩
abbrev main_call14_c : Ref sig .tc := ⟨.hbm, 448, rfl⟩
abbrev main_call14_v0 : Ref sig .tc := ⟨.hbm, 449, rfl⟩
abbrev main_call14_v1 : Ref sig .tc := ⟨.hbm, 450, rfl⟩
abbrev main_call14_c_0 : Ref sig .tc := ⟨.hbm, 451, rfl⟩
abbrev main_call14_v2 : Ref sig .tc := ⟨.hbm, 452, rfl⟩
abbrev main_call14_v3 : Ref sig .tc := ⟨.hbm, 453, rfl⟩
abbrev main_call14_v4 : Ref sig .tc := ⟨.hbm, 454, rfl⟩
abbrev main_call14_v5 : Ref sig .tc := ⟨.hbm, 455, rfl⟩
abbrev main_call14_c_1 : Ref sig .tc := ⟨.hbm, 456, rfl⟩
abbrev main_call14_c_2 : Ref sig .tc := ⟨.hbm, 457, rfl⟩
abbrev main_call14_v6 : Ref sig .tc := ⟨.hbm, 458, rfl⟩
abbrev main_call14_v7 : Ref sig .tc := ⟨.hbm, 459, rfl⟩
abbrev main_call14_v8 : Ref sig .tc := ⟨.hbm, 460, rfl⟩
abbrev main_call14_v9 : Ref sig .tc := ⟨.hbm, 461, rfl⟩
abbrev main_call14_v10 : Ref sig .tc := ⟨.hbm, 462, rfl⟩
abbrev main_call14_v11 : Ref sig .tc := ⟨.hbm, 463, rfl⟩
abbrev main_call14_c_3 : Ref sig .tc := ⟨.hbm, 464, rfl⟩
abbrev main_call14_v12 : Ref sig .tc := ⟨.hbm, 465, rfl⟩
abbrev main_call14_v13 : Ref sig .tc := ⟨.hbm, 466, rfl⟩
abbrev main_call14_v14 : Ref sig .tc := ⟨.hbm, 467, rfl⟩
abbrev main_call14_cst : Ref sig .tc := ⟨.hbm, 468, rfl⟩
abbrev main_call14_v15 : Ref sig .tc := ⟨.hbm, 469, rfl⟩
abbrev main_v97 : Ref sig .tc := ⟨.hbm, 470, rfl⟩
abbrev main_v98 : Ref sig .tc := ⟨.hbm, 471, rfl⟩
abbrev main_call15_c : Ref sig .tc := ⟨.hbm, 472, rfl⟩
abbrev main_call15_v0 : Ref sig .tc := ⟨.hbm, 473, rfl⟩
abbrev main_call15_v1 : Ref sig .tc := ⟨.hbm, 474, rfl⟩
abbrev main_call15_c_0 : Ref sig .tc := ⟨.hbm, 475, rfl⟩
abbrev main_call15_v2 : Ref sig .tc := ⟨.hbm, 476, rfl⟩
abbrev main_call15_v3 : Ref sig .tc := ⟨.hbm, 477, rfl⟩
abbrev main_call15_v4 : Ref sig .tc := ⟨.hbm, 478, rfl⟩
abbrev main_call15_v5 : Ref sig .tc := ⟨.hbm, 479, rfl⟩
abbrev main_call15_c_1 : Ref sig .tc := ⟨.hbm, 480, rfl⟩
abbrev main_call15_c_2 : Ref sig .tc := ⟨.hbm, 481, rfl⟩
abbrev main_call15_v6 : Ref sig .tc := ⟨.hbm, 482, rfl⟩
abbrev main_call15_v7 : Ref sig .tc := ⟨.hbm, 483, rfl⟩
abbrev main_call15_v8 : Ref sig .tc := ⟨.hbm, 484, rfl⟩
abbrev main_call15_v9 : Ref sig .tc := ⟨.hbm, 485, rfl⟩
abbrev main_call15_v10 : Ref sig .tc := ⟨.hbm, 486, rfl⟩
abbrev main_call15_v11 : Ref sig .tc := ⟨.hbm, 487, rfl⟩
abbrev main_call15_c_3 : Ref sig .tc := ⟨.hbm, 488, rfl⟩
abbrev main_call15_v12 : Ref sig .tc := ⟨.hbm, 489, rfl⟩
abbrev main_call15_v13 : Ref sig .tc := ⟨.hbm, 490, rfl⟩
abbrev main_call15_v14 : Ref sig .tc := ⟨.hbm, 491, rfl⟩
abbrev main_call15_cst : Ref sig .tc := ⟨.hbm, 492, rfl⟩
abbrev main_call15_v15 : Ref sig .tc := ⟨.hbm, 493, rfl⟩
abbrev main_v99 : Ref sig .tc := ⟨.hbm, 494, rfl⟩
abbrev main_call16_c : Ref sig .tc := ⟨.hbm, 495, rfl⟩
abbrev main_call16_v0 : Ref sig .tc := ⟨.hbm, 496, rfl⟩
abbrev main_call16_v1 : Ref sig .tc := ⟨.hbm, 497, rfl⟩
abbrev main_call16_c_0 : Ref sig .tc := ⟨.hbm, 498, rfl⟩
abbrev main_call16_v2 : Ref sig .tc := ⟨.hbm, 499, rfl⟩
abbrev main_call16_v3 : Ref sig .tc := ⟨.hbm, 500, rfl⟩
abbrev main_call16_v4 : Ref sig .tc := ⟨.hbm, 501, rfl⟩
abbrev main_call16_v5 : Ref sig .tc := ⟨.hbm, 502, rfl⟩
abbrev main_call16_c_1 : Ref sig .tc := ⟨.hbm, 503, rfl⟩
abbrev main_call16_c_2 : Ref sig .tc := ⟨.hbm, 504, rfl⟩
abbrev main_call16_v6 : Ref sig .tc := ⟨.hbm, 505, rfl⟩
abbrev main_call16_v7 : Ref sig .tc := ⟨.hbm, 506, rfl⟩
abbrev main_call16_v8 : Ref sig .tc := ⟨.hbm, 507, rfl⟩
abbrev main_call16_v9 : Ref sig .tc := ⟨.hbm, 508, rfl⟩
abbrev main_call16_v10 : Ref sig .tc := ⟨.hbm, 509, rfl⟩
abbrev main_call16_v11 : Ref sig .tc := ⟨.hbm, 510, rfl⟩
abbrev main_call16_c_3 : Ref sig .tc := ⟨.hbm, 511, rfl⟩
abbrev main_call16_v12 : Ref sig .tc := ⟨.hbm, 512, rfl⟩
abbrev main_call16_v13 : Ref sig .tc := ⟨.hbm, 513, rfl⟩
abbrev main_call16_v14 : Ref sig .tc := ⟨.hbm, 514, rfl⟩
abbrev main_call16_cst : Ref sig .tc := ⟨.hbm, 515, rfl⟩
abbrev main_call16_v15 : Ref sig .tc := ⟨.hbm, 516, rfl⟩
abbrev main_v100 : Ref sig .tc := ⟨.hbm, 517, rfl⟩
abbrev main_call17_c : Ref sig .tc := ⟨.hbm, 518, rfl⟩
abbrev main_call17_v0 : Ref sig .tc := ⟨.hbm, 519, rfl⟩
abbrev main_call17_v1 : Ref sig .tc := ⟨.hbm, 520, rfl⟩
abbrev main_call17_c_0 : Ref sig .tc := ⟨.hbm, 521, rfl⟩
abbrev main_call17_v2 : Ref sig .tc := ⟨.hbm, 522, rfl⟩
abbrev main_call17_v3 : Ref sig .tc := ⟨.hbm, 523, rfl⟩
abbrev main_call17_v4 : Ref sig .tc := ⟨.hbm, 524, rfl⟩
abbrev main_call17_v5 : Ref sig .tc := ⟨.hbm, 525, rfl⟩
abbrev main_call17_c_1 : Ref sig .tc := ⟨.hbm, 526, rfl⟩
abbrev main_call17_c_2 : Ref sig .tc := ⟨.hbm, 527, rfl⟩
abbrev main_call17_v6 : Ref sig .tc := ⟨.hbm, 528, rfl⟩
abbrev main_call17_v7 : Ref sig .tc := ⟨.hbm, 529, rfl⟩
abbrev main_call17_v8 : Ref sig .tc := ⟨.hbm, 530, rfl⟩
abbrev main_call17_v9 : Ref sig .tc := ⟨.hbm, 531, rfl⟩
abbrev main_call17_v10 : Ref sig .tc := ⟨.hbm, 532, rfl⟩
abbrev main_call17_v11 : Ref sig .tc := ⟨.hbm, 533, rfl⟩
abbrev main_call17_c_3 : Ref sig .tc := ⟨.hbm, 534, rfl⟩
abbrev main_call17_v12 : Ref sig .tc := ⟨.hbm, 535, rfl⟩
abbrev main_call17_v13 : Ref sig .tc := ⟨.hbm, 536, rfl⟩
abbrev main_call17_v14 : Ref sig .tc := ⟨.hbm, 537, rfl⟩
abbrev main_call17_cst : Ref sig .tc := ⟨.hbm, 538, rfl⟩
abbrev main_call17_v15 : Ref sig .tc := ⟨.hbm, 539, rfl⟩
abbrev main_v101 : Ref sig .tc := ⟨.hbm, 540, rfl⟩
abbrev main_c_24 : Ref sig .tc := ⟨.hbm, 541, rfl⟩
abbrev main_v102 : Ref sig .tc := ⟨.hbm, 542, rfl⟩
abbrev main_v103 : Ref sig .tc := ⟨.hbm, 543, rfl⟩
abbrev main_c_25 : Ref sig .tc := ⟨.hbm, 544, rfl⟩
abbrev main_v104 : Ref sig .tc := ⟨.hbm, 545, rfl⟩
abbrev main_v105 : Ref sig .tc := ⟨.hbm, 546, rfl⟩
abbrev main_call18_c : Ref sig .tc := ⟨.hbm, 547, rfl⟩
abbrev main_call18_v0 : Ref sig .tc := ⟨.hbm, 548, rfl⟩
abbrev main_call18_v1 : Ref sig .tc := ⟨.hbm, 549, rfl⟩
abbrev main_call18_c_0 : Ref sig .tc := ⟨.hbm, 550, rfl⟩
abbrev main_call18_v2 : Ref sig .tc := ⟨.hbm, 551, rfl⟩
abbrev main_call18_v3 : Ref sig .tc := ⟨.hbm, 552, rfl⟩
abbrev main_call18_v4 : Ref sig .tc := ⟨.hbm, 553, rfl⟩
abbrev main_call18_v5 : Ref sig .tc := ⟨.hbm, 554, rfl⟩
abbrev main_call18_c_1 : Ref sig .tc := ⟨.hbm, 555, rfl⟩
abbrev main_call18_c_2 : Ref sig .tc := ⟨.hbm, 556, rfl⟩
abbrev main_call18_v6 : Ref sig .tc := ⟨.hbm, 557, rfl⟩
abbrev main_call18_v7 : Ref sig .tc := ⟨.hbm, 558, rfl⟩
abbrev main_call18_v8 : Ref sig .tc := ⟨.hbm, 559, rfl⟩
abbrev main_call18_v9 : Ref sig .tc := ⟨.hbm, 560, rfl⟩
abbrev main_call18_v10 : Ref sig .tc := ⟨.hbm, 561, rfl⟩
abbrev main_call18_v11 : Ref sig .tc := ⟨.hbm, 562, rfl⟩
abbrev main_call18_c_3 : Ref sig .tc := ⟨.hbm, 563, rfl⟩
abbrev main_call18_v12 : Ref sig .tc := ⟨.hbm, 564, rfl⟩
abbrev main_call18_v13 : Ref sig .tc := ⟨.hbm, 565, rfl⟩
abbrev main_call18_v14 : Ref sig .tc := ⟨.hbm, 566, rfl⟩
abbrev main_call18_cst : Ref sig .tc := ⟨.hbm, 567, rfl⟩
abbrev main_call18_v15 : Ref sig .tc := ⟨.hbm, 568, rfl⟩
abbrev main_v106 : Ref sig .tc := ⟨.hbm, 569, rfl⟩
abbrev main_v107 : Ref sig .tc := ⟨.hbm, 570, rfl⟩
abbrev main_call19_c : Ref sig .tc := ⟨.hbm, 571, rfl⟩
abbrev main_call19_v0 : Ref sig .tc := ⟨.hbm, 572, rfl⟩
abbrev main_call19_v1 : Ref sig .tc := ⟨.hbm, 573, rfl⟩
abbrev main_call19_c_0 : Ref sig .tc := ⟨.hbm, 574, rfl⟩
abbrev main_call19_v2 : Ref sig .tc := ⟨.hbm, 575, rfl⟩
abbrev main_call19_v3 : Ref sig .tc := ⟨.hbm, 576, rfl⟩
abbrev main_call19_v4 : Ref sig .tc := ⟨.hbm, 577, rfl⟩
abbrev main_call19_v5 : Ref sig .tc := ⟨.hbm, 578, rfl⟩
abbrev main_call19_c_1 : Ref sig .tc := ⟨.hbm, 579, rfl⟩
abbrev main_call19_c_2 : Ref sig .tc := ⟨.hbm, 580, rfl⟩
abbrev main_call19_v6 : Ref sig .tc := ⟨.hbm, 581, rfl⟩
abbrev main_call19_v7 : Ref sig .tc := ⟨.hbm, 582, rfl⟩
abbrev main_call19_v8 : Ref sig .tc := ⟨.hbm, 583, rfl⟩
abbrev main_call19_v9 : Ref sig .tc := ⟨.hbm, 584, rfl⟩
abbrev main_call19_v10 : Ref sig .tc := ⟨.hbm, 585, rfl⟩
abbrev main_call19_v11 : Ref sig .tc := ⟨.hbm, 586, rfl⟩
abbrev main_call19_c_3 : Ref sig .tc := ⟨.hbm, 587, rfl⟩
abbrev main_call19_v12 : Ref sig .tc := ⟨.hbm, 588, rfl⟩
abbrev main_call19_v13 : Ref sig .tc := ⟨.hbm, 589, rfl⟩
abbrev main_call19_v14 : Ref sig .tc := ⟨.hbm, 590, rfl⟩
abbrev main_call19_cst : Ref sig .tc := ⟨.hbm, 591, rfl⟩
abbrev main_call19_v15 : Ref sig .tc := ⟨.hbm, 592, rfl⟩
abbrev main_v108 : Ref sig .tc := ⟨.hbm, 593, rfl⟩
abbrev main_call20_c : Ref sig .tc := ⟨.hbm, 594, rfl⟩
abbrev main_call20_v0 : Ref sig .tc := ⟨.hbm, 595, rfl⟩
abbrev main_call20_v1 : Ref sig .tc := ⟨.hbm, 596, rfl⟩
abbrev main_call20_c_0 : Ref sig .tc := ⟨.hbm, 597, rfl⟩
abbrev main_call20_v2 : Ref sig .tc := ⟨.hbm, 598, rfl⟩
abbrev main_call20_v3 : Ref sig .tc := ⟨.hbm, 599, rfl⟩
abbrev main_call20_v4 : Ref sig .tc := ⟨.hbm, 600, rfl⟩
abbrev main_call20_v5 : Ref sig .tc := ⟨.hbm, 601, rfl⟩
abbrev main_call20_c_1 : Ref sig .tc := ⟨.hbm, 602, rfl⟩
abbrev main_call20_c_2 : Ref sig .tc := ⟨.hbm, 603, rfl⟩
abbrev main_call20_v6 : Ref sig .tc := ⟨.hbm, 604, rfl⟩
abbrev main_call20_v7 : Ref sig .tc := ⟨.hbm, 605, rfl⟩
abbrev main_call20_v8 : Ref sig .tc := ⟨.hbm, 606, rfl⟩
abbrev main_call20_v9 : Ref sig .tc := ⟨.hbm, 607, rfl⟩
abbrev main_call20_v10 : Ref sig .tc := ⟨.hbm, 608, rfl⟩
abbrev main_call20_v11 : Ref sig .tc := ⟨.hbm, 609, rfl⟩
abbrev main_call20_c_3 : Ref sig .tc := ⟨.hbm, 610, rfl⟩
abbrev main_call20_v12 : Ref sig .tc := ⟨.hbm, 611, rfl⟩
abbrev main_call20_v13 : Ref sig .tc := ⟨.hbm, 612, rfl⟩
abbrev main_call20_v14 : Ref sig .tc := ⟨.hbm, 613, rfl⟩
abbrev main_call20_cst : Ref sig .tc := ⟨.hbm, 614, rfl⟩
abbrev main_call20_v15 : Ref sig .tc := ⟨.hbm, 615, rfl⟩
abbrev main_v109 : Ref sig .tc := ⟨.hbm, 616, rfl⟩
abbrev main_call21_c : Ref sig .tc := ⟨.hbm, 617, rfl⟩
abbrev main_call21_v0 : Ref sig .tc := ⟨.hbm, 618, rfl⟩
abbrev main_call21_v1 : Ref sig .tc := ⟨.hbm, 619, rfl⟩
abbrev main_call21_c_0 : Ref sig .tc := ⟨.hbm, 620, rfl⟩
abbrev main_call21_v2 : Ref sig .tc := ⟨.hbm, 621, rfl⟩
abbrev main_call21_v3 : Ref sig .tc := ⟨.hbm, 622, rfl⟩
abbrev main_call21_v4 : Ref sig .tc := ⟨.hbm, 623, rfl⟩
abbrev main_call21_v5 : Ref sig .tc := ⟨.hbm, 624, rfl⟩
abbrev main_call21_c_1 : Ref sig .tc := ⟨.hbm, 625, rfl⟩
abbrev main_call21_c_2 : Ref sig .tc := ⟨.hbm, 626, rfl⟩
abbrev main_call21_v6 : Ref sig .tc := ⟨.hbm, 627, rfl⟩
abbrev main_call21_v7 : Ref sig .tc := ⟨.hbm, 628, rfl⟩
abbrev main_call21_v8 : Ref sig .tc := ⟨.hbm, 629, rfl⟩
abbrev main_call21_v9 : Ref sig .tc := ⟨.hbm, 630, rfl⟩
abbrev main_call21_v10 : Ref sig .tc := ⟨.hbm, 631, rfl⟩
abbrev main_call21_v11 : Ref sig .tc := ⟨.hbm, 632, rfl⟩
abbrev main_call21_c_3 : Ref sig .tc := ⟨.hbm, 633, rfl⟩
abbrev main_call21_v12 : Ref sig .tc := ⟨.hbm, 634, rfl⟩
abbrev main_call21_v13 : Ref sig .tc := ⟨.hbm, 635, rfl⟩
abbrev main_call21_v14 : Ref sig .tc := ⟨.hbm, 636, rfl⟩
abbrev main_call21_cst : Ref sig .tc := ⟨.hbm, 637, rfl⟩
abbrev main_call21_v15 : Ref sig .tc := ⟨.hbm, 638, rfl⟩
abbrev main_v110 : Ref sig .tc := ⟨.hbm, 639, rfl⟩
abbrev main_c_26 : Ref sig .tc := ⟨.hbm, 640, rfl⟩
abbrev main_v111 : Ref sig .tc := ⟨.hbm, 641, rfl⟩
abbrev main_v112 : Ref sig .tc := ⟨.hbm, 642, rfl⟩
abbrev main_v113 : Ref sig .tc := ⟨.hbm, 643, rfl⟩
abbrev main_call22_c : Ref sig .tc := ⟨.hbm, 644, rfl⟩
abbrev main_call22_v0 : Ref sig .tc := ⟨.hbm, 645, rfl⟩
abbrev main_call22_v1 : Ref sig .tc := ⟨.hbm, 646, rfl⟩
abbrev main_call22_c_0 : Ref sig .tc := ⟨.hbm, 647, rfl⟩
abbrev main_call22_v2 : Ref sig .tc := ⟨.hbm, 648, rfl⟩
abbrev main_call22_v3 : Ref sig .tc := ⟨.hbm, 649, rfl⟩
abbrev main_call22_v4 : Ref sig .tc := ⟨.hbm, 650, rfl⟩
abbrev main_call22_v5 : Ref sig .tc := ⟨.hbm, 651, rfl⟩
abbrev main_call22_c_1 : Ref sig .tc := ⟨.hbm, 652, rfl⟩
abbrev main_call22_c_2 : Ref sig .tc := ⟨.hbm, 653, rfl⟩
abbrev main_call22_v6 : Ref sig .tc := ⟨.hbm, 654, rfl⟩
abbrev main_call22_v7 : Ref sig .tc := ⟨.hbm, 655, rfl⟩
abbrev main_call22_v8 : Ref sig .tc := ⟨.hbm, 656, rfl⟩
abbrev main_call22_v9 : Ref sig .tc := ⟨.hbm, 657, rfl⟩
abbrev main_call22_v10 : Ref sig .tc := ⟨.hbm, 658, rfl⟩
abbrev main_call22_v11 : Ref sig .tc := ⟨.hbm, 659, rfl⟩
abbrev main_call22_c_3 : Ref sig .tc := ⟨.hbm, 660, rfl⟩
abbrev main_call22_v12 : Ref sig .tc := ⟨.hbm, 661, rfl⟩
abbrev main_call22_v13 : Ref sig .tc := ⟨.hbm, 662, rfl⟩
abbrev main_call22_v14 : Ref sig .tc := ⟨.hbm, 663, rfl⟩
abbrev main_call22_cst : Ref sig .tc := ⟨.hbm, 664, rfl⟩
abbrev main_call22_v15 : Ref sig .tc := ⟨.hbm, 665, rfl⟩
abbrev main_v114 : Ref sig .tc := ⟨.hbm, 666, rfl⟩
abbrev main_v115 : Ref sig .tc := ⟨.hbm, 667, rfl⟩
abbrev main_v116 : Ref sig .tc := ⟨.hbm, 668, rfl⟩
abbrev main_v117 : Ref sig .tc := ⟨.hbm, 669, rfl⟩
abbrev main_v118 : Ref sig .tc := ⟨.hbm, 670, rfl⟩
abbrev main_v119 : Ref sig .tc := ⟨.hbm, 671, rfl⟩
abbrev main_v120 : Ref sig .tc := ⟨.hbm, 672, rfl⟩
abbrev main_v121 : Ref sig .tc := ⟨.hbm, 673, rfl⟩
abbrev main_v122 : Ref sig .tc := ⟨.hbm, 674, rfl⟩
abbrev main_v123 : Ref sig .tc := ⟨.hbm, 675, rfl⟩
abbrev main_c_27 : Ref sig .tc := ⟨.hbm, 676, rfl⟩
abbrev main_v124 : Ref sig .tc := ⟨.hbm, 677, rfl⟩
abbrev main_v125 : Ref sig .tc := ⟨.hbm, 678, rfl⟩
abbrev main_v126 : Ref sig .tc := ⟨.hbm, 679, rfl⟩
abbrev main_v127 : Ref sig .tc := ⟨.hbm, 680, rfl⟩
abbrev main_v128 : Ref sig .tc := ⟨.hbm, 681, rfl⟩
abbrev main_v129 : Ref sig .tc := ⟨.hbm, 682, rfl⟩
abbrev main_v130 : Ref sig .tc := ⟨.hbm, 683, rfl⟩
abbrev main_v131 : Ref sig .tc := ⟨.hbm, 684, rfl⟩

abbrev nD : Nat := 1
abbrev τ : Topo := Topo.v7x

variable {F : FTy → Type} [FloatOps F]
-- ==== Proof.Emb.Entry.lean ====
/- What the three weight arrays hold when the region is entered: `wComb`, `cBase` and `cDelta` of the two probe arrays `pkP` and
   `mvP`, themselves written of the argument tables (`entry_w`, `entry_base`, `entry_delta`). -/
module

public import proofs.«01_k».proof.Proof.Gen.KernelIdeal.Frame
public import Idealize.ShloMosaic.Lib.StableHlo.RunRead
public import Idealize.ShloMosaic.Lib.Pointwise

@[expose] public section

set_option maxRecDepth 16384

noncomputable section

namespace Cert.Emb.Entry

open Cert.KernelIdeal Cert.KernelIdeal.Gen Idealize.ShloMosaic Idealize.ShloMosaic.TcCoe Idealize.SL.Sem

/-- The probes' name row numbers. -/
def nameIx : IVec S37x1x3x1x1 32 := fun i => lit0 (S37x1x3x1x1.rowMajor i)
/-- The probes' ability row numbers. -/
def abilityIx : IVec S37x1x3x1x1 32 := fun i => lit1 (S37x1x3x1x1.rowMajor i)
/-- The probes' item row numbers. -/
def itemIx : IVec S37x1x3x1x1 32 := fun i => lit2 (S37x1x3x1x1.rowMajor i)
/-- The probes' move row numbers. -/
def moveIx : IVec S37x1x3x1x4x1 32 := fun i => lit4 (S37x1x3x1x4x1.rowMajor i)
/-- The probes' item-effect one-hot rows. -/
def effOh : FVec Ideal S37x1x3x1x17 .f32 := fun i => FloatOps.ofBits .f32 (lit3 (S37x1x3x1x17.rowMajor i))
/-- The probes' power-point one-hot rows. -/
def ppOh : FVec Ideal S37x1x3x1x4x6 .f32 := fun i => FloatOps.ofBits .f32 (lit5 (S37x1x3x1x4x6.rowMajor i))
/-- The probes' one-hot columns. -/
def colOh : FVec Ideal S37x1x3x1x250 .f32 := fun i => FloatOps.ofBits .f32 (lit6 (S37x1x3x1x250.rowMajor i))

/-- Rows of the name table over the probes. -/
def nameT (T : FVec Ideal S1318x128 .f32) : FVec Ideal S37x1x3x1x128 .f32 :=
  Host.gather gather_S1318x128_S37x1x3x1x1_S37x1x3x1x128_4_0_n_n_0_4_1128 T nameIx

/-- Rows of the ability table over the probes. -/
def abilityT (T : FVec Ideal S314x64 .f32) : FVec Ideal S37x1x3x1x64 .f32 :=
  Host.gather gather_S314x64_S37x1x3x1x1_S37x1x3x1x64_4_0_n_n_0_4_164 T abilityIx

/-- Rows of the item table over the probes. -/
def itemT (T : FVec Ideal S528x64 .f32) : FVec Ideal S37x1x3x1x64 .f32 :=
  Host.gather gather_S528x64_S37x1x3x1x1_S37x1x3x1x64_4_0_n_n_0_4_164 T itemIx

/-- Rows of the move table over the probes. -/
def moveT (T : FVec Ideal S919x128 .f32) : FVec Ideal S37x1x3x1x4x128 .f32 :=
  Host.gather gather_S919x128_S37x1x3x1x4x1_S37x1x3x1x4x128_5_0_n_n_0_5_1128 T moveIx

/-- A bias row over the probes. -/
def bias4 (b : FVec Ideal S128 .f32) : FVec Ideal S37x1x3x1x128 .f32 :=
  broadcastInDim S37x1x3x1x128 ![0, 1, 2, 3, 4] bcast_S1x1x1x1x128_S37x1x3x1x128_0_1_2_3_4
    (broadcastInDim S1x1x1x1x128 ![4] bcast_S128_S1x1x1x1x128_4 b)

/-- The name's embedding of the probes. -/
def nameP (T : FVec Ideal S1318x128 .f32) (W : FVec Ideal S128x128 .f32) (b : FVec Ideal S128 .f32) : FVec Ideal S37x1x3x1x128 .f32 :=
  addf (Host.dotGeneral dot_S37x1x3x1x128_S128x128_S37x1x3x1x128_4_0_0123_1_n_n none (nameT T) W) (bias4 b)

/-- The ability's embedding of the probes. -/
def abilityP (T : FVec Ideal S314x64 .f32) (W : FVec Ideal S64x128 .f32) (b : FVec Ideal S128 .f32) : FVec Ideal S37x1x3x1x128 .f32 :=
  addf (Host.dotGeneral dot_S37x1x3x1x64_S64x128_S37x1x3x1x128_4_0_0123_1_n_n none (abilityT T) W) (bias4 b)

/-- The item's embedding of the probes. -/
def itemP (T : FVec Ideal S528x64 .f32) (W : FVec Ideal S81x128 .f32) (b : FVec Ideal S128 .f32) : FVec Ideal S37x1x3x1x128 .f32 :=
  addf (addf
      (Host.dotGeneral dot_S37x1x3x1x64_S64x128_S37x1x3x1x128_4_0_0123_1_n_n none (itemT T)
        (extractStridedSlice S64x128 ![0, 0] W slices_S81x128_S64x128_0_0))
      (Host.reduceAdd (mulf
          (broadcastInDim S37x1x3x1x17x128 ![0, 1, 2, 3, 4, 5] bcast_S37x1x3x1x17x1_S37x1x3x1x17x128_0_1_2_3_4_5
            (broadcastInDim S37x1x3x1x17x1 ![0, 1, 2, 3, 4] bcast_S37x1x3x1x17_S37x1x3x1x17x1_0_1_2_3_4
              effOh))
          (broadcastInDim S37x1x3x1x17x128 ![0, 1, 2, 3, 4, 5] bcast_S1x1x1x1x17x128_S37x1x3x1x17x128_0_1_2_3_4_5
            (broadcastInDim S1x1x1x1x17x128 ![4, 5] bcast_S17x128_S1x1x1x1x17x128_4_5
              (extractStridedSlice S17x128 ![64, 0] W slices_S81x128_S17x128_64_0))))
        (constant S_ .f32 0x00000000#32) reducesTo_S37x1x3x1x17x128_S37x1x3x1x128_d4 h_S_))
    (bias4 b)

/-- The four moves' embeddings of the probes. -/
def mvP (T : FVec Ideal S919x128 .f32) (W : FVec Ideal S134x128 .f32) (b : FVec Ideal S128 .f32) : FVec Ideal S37x1x3x1x4x128 .f32 :=
  addf (addf
      (Host.dotGeneral dot_S37x1x3x1x4x128_S128x128_S37x1x3x1x4x128_5_0_01234_1_n_n none (moveT T)
        (extractStridedSlice S128x128 ![0, 0] W slices_S134x128_S128x128_0_0))
      (Host.reduceAdd (mulf
          (broadcastInDim S37x1x3x1x4x6x128 ![0, 1, 2, 3, 4, 5, 6] bcast_S37x1x3x1x4x6x1_S37x1x3x1x4x6x128_0_1_2_3_4_5_6
            (broadcastInDim S37x1x3x1x4x6x1 ![0, 1, 2, 3, 4, 5] bcast_S37x1x3x1x4x6_S37x1x3x1x4x6x1_0_1_2_3_4_5
              ppOh))
          (broadcastInDim S37x1x3x1x4x6x128 ![0, 1, 2, 3, 4, 5, 6] bcast_S1x1x1x1x1x6x128_S37x1x3x1x4x6x128_0_1_2_3_4_5_6
            (broadcastInDim S1x1x1x1x1x6x128 ![5, 6] bcast_S6x128_S1x1x1x1x1x6x128_5_6
              (extractStridedSlice S6x128 ![128, 0] W slices_S134x128_S6x128_128_0))))
        (constant S_ .f32 0x00000000#32) reducesTo_S37x1x3x1x4x6x128_S37x1x3x1x4x128_d5 h_S_))
    (broadcastInDim S37x1x3x1x4x128 ![0, 1, 2, 3, 4, 5] bcast_S1x1x1x1x1x128_S37x1x3x1x4x128_0_1_2_3_4_5
      (broadcastInDim S1x1x1x1x1x128 ![5] bcast_S128_S1x1x1x1x1x128_5 b))

/-- The one-hot features' embedding of the probes. -/
def ohP (W : FVec Ideal S250x128 .f32) (b : FVec Ideal S128 .f32) : FVec Ideal S37x1x3x1x128 .f32 :=
  addf (Host.reduceAdd (mulf
      (broadcastInDim S37x1x3x1x250x128 ![0, 1, 2, 3, 4, 5] bcast_S37x1x3x1x250x1_S37x1x3x1x250x128_0_1_2_3_4_5
        (broadcastInDim S37x1x3x1x250x1 ![0, 1, 2, 3, 4] bcast_S37x1x3x1x250_S37x1x3x1x250x1_0_1_2_3_4
          colOh))
      (broadcastInDim S37x1x3x1x250x128 ![0, 1, 2, 3, 4, 5] bcast_S1x1x1x1x250x128_S37x1x3x1x250x128_0_1_2_3_4_5
        (broadcastInDim S1x1x1x1x250x128 ![4, 5] bcast_S250x128_S1x1x1x1x250x128_4_5 W)))
    (constant S_ .f32 0x00000000#32) reducesTo_S37x1x3x1x250x128_S37x1x3x1x128_d4 h_S_) (bias4 b)

/-- The whole embedding of the probes: name, ability, item, the four moves, the one-hot features. -/
def pkP (N A I : FVec Ideal S37x1x3x1x128 .f32) (M : FVec Ideal S37x1x3x1x4x128 .f32) (O : FVec Ideal S37x1x3x1x128 .f32) :
    FVec Ideal S37x1x3x1x128 .f32 :=
  addf (addf (addf (addf N A) I) (Host.reduceAdd M (constant S_ .f32 0x00000000#32) reducesTo_S37x1x3x1x4x128_S37x1x3x1x128_d4 h_S_)) O

/-- The embedding of the all-zero probe on each side. -/
def side0 (P : FVec Ideal S37x1x3x1x128 .f32) : FVec Ideal S3x128 .f32 :=
  shapeCast S3x128 (extractStridedSlice S1x1x3x1x128 ![0, 0, 0, 0, 0] P slices_S37x1x3x1x128_S1x1x3x1x128_0_0_0_0_0)
    shapeCasts_S1x1x3x1x128_S3x128

/-- The first side's row of that. -/
def row0 (P : FVec Ideal S37x1x3x1x128 .f32) : FVec Ideal S128 .f32 :=
  shapeCast S128 (extractStridedSlice S1x128 ![0, 0] (side0 P) slices_S3x128_S1x128_0_0) shapeCasts_S1x128_S128

/-- The four moves of the all-zero probe. -/
def moves0 (M : FVec Ideal S37x1x3x1x4x128 .f32) : FVec Ideal S4x128 .f32 :=
  shapeCast S4x128 (extractStridedSlice S1x1x1x1x4x128 ![0, 0, 0, 0, 0, 0] M slices_S37x1x3x1x4x128_S1x1x1x1x4x128_0_0_0_0_0_0)
    shapeCasts_S1x1x1x1x4x128_S4x128

/-- The embedding's part of the combined weights: per feature, the change its unit probe makes. -/
def wName (P : FVec Ideal S37x1x3x1x128 .f32) : FVec Ideal S36x128 .f32 :=
  subf (shapeCast S36x128 (extractStridedSlice S36x1x1x1x128 ![1, 0, 0, 0, 0] P slices_S37x1x3x1x128_S36x1x1x1x128_1_0_0_0_0)
      shapeCasts_S36x1x1x1x128_S36x128)
    (broadcastInDim S36x128 ![0, 1] bcast_S1x128_S36x128_0_1 (broadcastInDim S1x128 ![1] bcast_S128_S1x128_1 (row0 P)))

/-- The moves' part of the combined weights. -/
def wMoves (M : FVec Ideal S37x1x3x1x4x128 .f32) : FVec Ideal S36x512 .f32 :=
  shapeCast S36x512 (subf
    (shapeCast S36x4x128 (extractStridedSlice S36x1x1x1x4x128 ![1, 0, 0, 0, 0, 0] M slices_S37x1x3x1x4x128_S36x1x1x1x4x128_1_0_0_0_0_0)
      shapeCasts_S36x1x1x1x4x128_S36x4x128)
    (broadcastInDim S36x4x128 ![0, 1, 2] bcast_S1x4x128_S36x4x128_0_1_2
      (broadcastInDim S1x4x128 ![1, 2] bcast_S4x128_S1x4x128_1_2 (moves0 M)))) shapeCasts_S36x4x128_S36x512

/-- The two parts side by side. -/
def catW (a : FVec Ideal S36x128 .f32) (b : FVec Ideal S36x512 .f32) : FVec Ideal S36x640 .f32 :=
  concatenate S36x640 1 [⟨S36x128, a⟩, ⟨S36x512, b⟩] concatenates_S36x128_S36x512_S36x640_d1

/-- The base row's two parts side by side. -/
def catB (a : FVec Ideal S128 .f32) (b : FVec Ideal S512 .f32) : FVec Ideal S1x640 .f32 :=
  broadcastInDim S1x640 ![1] bcast_S640_S1x640_1
    (concatenate S640 0 [⟨S128, a⟩, ⟨S512, b⟩] concatenates_S128_S512_S640_d0)

/-- The moves' part of the base row. -/
def baseMoves (M : FVec Ideal S37x1x3x1x4x128 .f32) : FVec Ideal S512 .f32 := shapeCast S512 (moves0 M) shapeCasts_S4x128_S512

/-- The combined weights: per feature, the change the unit probe makes to the embedding and to the four moves. -/
def wComb (P : FVec Ideal S37x1x3x1x128 .f32) (M : FVec Ideal S37x1x3x1x4x128 .f32) : FVec Ideal S36x640 .f32 :=
  catW (wName P) (wMoves M)

/-- The base row: the all-zero probe's embedding and four moves. -/
def cBase (P : FVec Ideal S37x1x3x1x128 .f32) (M : FVec Ideal S37x1x3x1x4x128 .f32) : FVec Ideal S1x640 .f32 :=
  catB (row0 P) (baseMoves M)

/-- The last side's row: what the last side changes in the all-zero probe's embedding. -/
def cDelta (P : FVec Ideal S37x1x3x1x128 .f32) : FVec Ideal S1x128 .f32 :=
  broadcastInDim S1x128 ![1] bcast_S128_S1x128_1
    (subf (shapeCast S128 (extractStridedSlice S1x128 ![2, 0] (side0 P) slices_S3x128_S1x128_2_0) shapeCasts_S1x128_S128) (row0 P))

variable (m : (ℓ : Loc nD τ sig) → Buf (Elt Ideal) ℓ)

/-- The moves' probe array of the launched arguments. -/
def mvOf (c : Dev nD) : FVec Ideal S37x1x3x1x4x128 .f32 :=
  mvP (m (c, Proc.devRef .tc main_arg10)) (m (c, Proc.devRef .tc main_arg11)) (m (c, Proc.devRef .tc main_arg12))

/-- The embedding's probe array of the launched arguments. -/
def pkOf (c : Dev nD) : FVec Ideal S37x1x3x1x128 .f32 :=
  pkP (nameP (m (c, Proc.devRef .tc main_arg1)) (m (c, Proc.devRef .tc main_arg2)) (m (c, Proc.devRef .tc main_arg3)))
    (abilityP (m (c, Proc.devRef .tc main_arg4)) (m (c, Proc.devRef .tc main_arg5)) (m (c, Proc.devRef .tc main_arg6)))
    (itemP (m (c, Proc.devRef .tc main_arg7)) (m (c, Proc.devRef .tc main_arg8)) (m (c, Proc.devRef .tc main_arg9)))
    (mvOf m c)
    (ohP (m (c, Proc.devRef .tc main_arg15)) (m (c, Proc.devRef .tc main_arg16)))

set_option maxHeartbeats 4000000 in
/-- The combined weights at the region's entry. -/
theorem entry_w (c : Dev nD) : V m c main_v72 = wComb (pkOf m c) (mvOf m c) := by
  show V0 m c (Proc.devRef .tc main_v72) = _
  unfold V0
  after_reads_simp
  refine congrArg₂ catW (?_ : _ = wName (pkOf m c)) (?_ : _ = wMoves (mvOf m c))
  · after_reads_simp
    unfold wName row0 side0 pkOf mvOf pkP nameP abilityP itemP mvP ohP nameT abilityT itemT moveT bias4 nameIx abilityIx itemIx moveIx effOh ppOh colOh
    rfl
  · after_reads_simp
    unfold wMoves moves0 mvOf mvP moveT moveIx ppOh
    rfl

set_option maxHeartbeats 4000000 in
/-- The base row at the region's entry. -/
theorem entry_base (c : Dev nD) : V m c main_v76 = cBase (pkOf m c) (mvOf m c) := by
  show V0 m c (Proc.devRef .tc main_v76) = _
  unfold V0
  after_reads_simp
  refine congrArg₂ catB (?_ : _ = row0 (pkOf m c)) (?_ : _ = baseMoves (mvOf m c))
  · after_reads_simp
    unfold row0 side0 pkOf mvOf pkP nameP abilityP itemP mvP ohP nameT abilityT itemT moveT bias4 nameIx abilityIx itemIx moveIx effOh ppOh colOh
    rfl
  · after_reads_simp
    unfold baseMoves moves0 mvOf mvP moveT moveIx ppOh
    rfl

set_option maxHeartbeats 4000000 in
/-- The last side's row at the region's entry. -/
theorem entry_delta (c : Dev nD) : V m c main_v82 = cDelta (pkOf m c) := by
  show V0 m c (Proc.devRef .tc main_v82) = _
  unfold V0
  after_reads_simp
  unfold cDelta pkOf row0 side0 mvOf pkP nameP abilityP itemP mvP ohP nameT abilityT itemT moveT bias4 nameIx abilityIx itemIx moveIx effOh ppOh colOh
  rfl

end Cert.Emb.Entry
end
-- ==== Proof.Emb.Affine.lean ====
/- The mathematics of the embedding over binary feature rows, in the reals: which table row and which one-hot column a
   feature bit selects, the two embeddings as sums of functions of single features, and the identity on which the probing
   kernel rests: such a sum is affine on binary rows. -/
module

public import Idealize.ShloMosaic.Lib.ValueIdx
public import Mathlib.Tactic.Linarith
public import Mathlib.Tactic.Ring

@[expose] public section

noncomputable section

namespace Cert.Emb

/-- A binary feature row: 36 bits. -/
abbrev Row : Type := Fin 36 → Bool

/-- A bit as a real number. -/
def bitR (v : Bool) : ℝ := if v then 1 else 0

/-- The table row a bit selects: a feature `x` is looked up at `x + 1`. -/
def rowNat (v : Bool) : ℕ := if v then 2 else 1

/-- The probe rows: the zero row, then the 36 unit rows. -/
def probe (r : Fin 37) : Row := fun j => decide (r.val = j.val + 1)

/-- The zero row. -/
def zeroRow : Row := fun _ => false

/-- The unit row of feature `j`. -/
def unitRow (j : Fin 36) : Row := fun i => decide (i = j)

/-! ### Functions affine on binary rows -/

/-- `f` is affine on binary rows: its value is its value at zero plus, for each set bit, the difference the bit makes. -/
def Aff (f : Row → ℝ) : Prop := ∀ b, f b = f zeroRow + ∑ j, bitR (b j) * (f (unitRow j) - f zeroRow)

/-- A function of one feature is affine. -/
theorem Aff.single (j : Fin 36) (g : Bool → ℝ) : Aff fun b => g (b j) := by
  intro b
  rw [Finset.sum_eq_single j]
  · cases h : b j <;> simp [bitR, zeroRow, unitRow, h]
  · intro i _ hi
    simp [zeroRow, unitRow, hi.symm]
  · intro h
    exact absurd (Finset.mem_univ j) h

/-- A constant is affine. -/
theorem Aff.const (a : ℝ) : Aff fun _ => a := by
  intro b
  simp

/-- A sum of two affine functions is affine. -/
theorem Aff.add {f g : Row → ℝ} (hf : Aff f) (hg : Aff g) : Aff fun b => f b + g b := by
  intro b
  have e : ∑ j, bitR (b j) * (f (unitRow j) + g (unitRow j) - (f zeroRow + g zeroRow))
      = ∑ j, bitR (b j) * (f (unitRow j) - f zeroRow) + ∑ j, bitR (b j) * (g (unitRow j) - g zeroRow) := by
    rw [← Finset.sum_add_distrib]
    exact Finset.sum_congr rfl fun j _ => by ring
  show f b + g b = _
  rw [e, hf b, hg b]
  ring

/-- A finite sum of affine functions is affine. -/
theorem Aff.sum {ι : Type} (s : Finset ι) {f : ι → Row → ℝ} (hf : ∀ i, Aff (f i)) : Aff fun b => ∑ i ∈ s, f i b := by
  classical
  induction s using Finset.induction_on with
  | empty => simpa using Aff.const 0
  | insert a s ha ih =>
    have : (fun b => ∑ i ∈ insert a s, f i b) = fun b => f a b + ∑ i ∈ s, f i b := by
      funext b
      exact Finset.sum_insert ha
    rw [this]
    exact (hf a).add ih

/-! ### The one-hot columns -/

/-- The feature the one-hot column `c` depends on. -/
def colFeature (c : ℕ) : Fin 36 :=
  if c < 15 then 1 else if c < 69 then 0 else if c < 70 then 5 else if c < 105 then 0 else if c < 107 then 12
  else if c < 109 then 11 else if c < 112 then 14 else if c < 212 then 0 else if c < 219 then 21
  else if c < 222 then 22 else if c < 229 then 0 else if c < 248 then 35 else 0

/-- Whether the one-hot column `c` is set, given whether the row is of the last side and the bit of the column's feature. -/
def colHot (c : ℕ) (last : Bool) (v : Bool) : Bool :=
  if c < 15 then c == v.toNat else if c < 42 then c == 15 else if c < 69 then c == 42 else if c < 70 then v
  else if c < 105 then (c - 70) % 7 == 0 else if c < 107 then c - 105 == v.toNat else if c < 109 then c - 107 == v.toNat
  else if c < 112 then c - 109 == v.toNat else if c < 212 then c == 112 else if c < 219 then c - 212 == v.toNat
  else if c < 222 then c - 219 == v.toNat else if c < 225 then c == 222 else if c < 227 then c - 225 == last.toNat
  else if c < 229 then c == 227 else if c < 248 then c - 229 == v.toNat else c == 249

/-- Whether the one-hot column `c` of the row `b` is set. -/
def hot (b : Row) (last : Bool) (c : ℕ) : Bool := colHot c last (b (colFeature c))

/-! ### The two embeddings -/

/-- The weights, as real functions of natural indices. -/
structure Weights where
  pokT : ℕ → ℕ → ℝ
  pokW : ℕ → ℕ → ℝ
  pokB : ℕ → ℝ
  abT : ℕ → ℕ → ℝ
  abW : ℕ → ℕ → ℝ
  abB : ℕ → ℝ
  itT : ℕ → ℕ → ℝ
  itW : ℕ → ℕ → ℝ
  itB : ℕ → ℝ
  mvT : ℕ → ℕ → ℝ
  mvW : ℕ → ℕ → ℝ
  mvB : ℕ → ℝ
  ohW : ℕ → ℕ → ℝ
  ohB : ℕ → ℝ

namespace Weights

variable (W : Weights)

/-- The name's embedding at column `o`, of the bit of feature 0. -/
def nameE (v : Bool) (o : ℕ) : ℝ := ∑ k : Fin 128, W.pokT (rowNat v) k * W.pokW k o + W.pokB o

/-- The ability's embedding, of the bit of feature 15. -/
def abilityE (v : Bool) (o : ℕ) : ℝ := ∑ k : Fin 64, W.abT (rowNat v) k * W.abW k o + W.abB o

/-- The item's embedding, of the bits of features 17 (the item) and 19 (its effect, one-hot). -/
def itemE (v e : Bool) (o : ℕ) : ℝ :=
  ∑ k : Fin 64, W.itT (rowNat v) k * W.itW k o + ∑ k : Fin 17, bitR (k.val == e.toNat) * W.itW (64 + k) o + W.itB o

/-- One move's embedding, of the bits of its move feature and of its power-point feature (one-hot). -/
def moveE (v p : Bool) (o : ℕ) : ℝ :=
  ∑ k : Fin 128, W.mvT (rowNat v) k * W.mvW k o + ∑ k : Fin 6, bitR (k.val == p.toNat) * W.mvW (128 + k) o + W.mvB o

/-- The one-hot columns' embedding. -/
def onehotE (b : Row) (last : Bool) (o : ℕ) : ℝ := ∑ k : Fin 250, bitR (hot b last k) * W.ohW k o + W.ohB o

/-- The features of move `q` of four: 26 + q the move, 30 + q its power points. -/
def mvJ (q : Fin 4) : Fin 36 := ⟨26 + q, by omega⟩
/-- The power-point feature of move `q`. -/
def ppJ (q : Fin 4) : Fin 36 := ⟨30 + q, by omega⟩

/-- Move `q`'s embedding of the row `b`. -/
def mov (b : Row) (q : Fin 4) (o : ℕ) : ℝ := W.moveE (b (mvJ q)) (b (ppJ q)) o

/-- The whole embedding of the row `b`. -/
def pok (b : Row) (last : Bool) (o : ℕ) : ℝ :=
  W.nameE (b 0) o + W.abilityE (b 15) o + W.itemE (b 17) (b 19) o + ∑ q, W.mov b q o + W.onehotE b last o

/-- A move's embedding is affine on binary rows. -/
theorem mov_aff (q : Fin 4) (o : ℕ) : Aff fun b => W.mov b q o :=
  ((Aff.single (mvJ q) fun v => ∑ k : Fin 128, W.mvT (rowNat v) k * W.mvW k o).add
    (Aff.single (ppJ q) fun p => ∑ k : Fin 6, bitR (k.val == p.toNat) * W.mvW (128 + k) o)).add (Aff.const (W.mvB o))

/-- The one-hot columns' embedding is affine on binary rows: each column depends on one feature. -/
theorem onehotE_aff (last : Bool) (o : ℕ) : Aff fun b => W.onehotE b last o :=
  (Aff.sum Finset.univ fun k : Fin 250 =>
    Aff.single (colFeature k) fun v => bitR (colHot k last v) * W.ohW k o).add (Aff.const (W.ohB o))

/-- The whole embedding is affine on binary rows. -/
theorem pok_aff (last : Bool) (o : ℕ) : Aff fun b => W.pok b last o :=
  ((((Aff.single 0 fun v => W.nameE v o).add (Aff.single 15 fun v => W.abilityE v o)).add
    (((Aff.single 17 fun v => ∑ k : Fin 64, W.itT (rowNat v) k * W.itW k o).add
      (Aff.single 19 fun e => ∑ k : Fin 17, bitR (k.val == e.toNat) * W.itW (64 + k) o)).add (Aff.const (W.itB o)))).add
    (Aff.sum Finset.univ fun q => W.mov_aff q o)).add (W.onehotE_aff last o)

/-- Only two columns depend on the side, and on no feature: the side adds the same difference to every row. -/
theorem pok_last (b : Row) (o : ℕ) :
    W.pok b true o = W.pok b false o + (W.pok zeroRow true o - W.pok zeroRow false o) := by
  have e : ∀ k : Fin 250, bitR (hot b true k) - bitR (hot b false k)
      = bitR (hot zeroRow true k) - bitR (hot zeroRow false k) := by
    intro k
    by_cases h : 225 ≤ k.val ∧ k.val < 227
    · have hj : ∀ (b : Row) (s : Bool), hot b s k = (k.val - 225 == s.toNat) := by
        intro b s
        simp only [hot, colHot]
        rw [if_neg (by omega), if_neg (by omega), if_neg (by omega), if_neg (by omega), if_neg (by omega), if_neg (by omega),
          if_neg (by omega), if_neg (by omega), if_neg (by omega), if_neg (by omega), if_neg (by omega), if_neg (by omega),
          if_pos (by omega)]
      simp only [hj]
    · have hj : ∀ (b : Row), hot b true k = hot b false k := by
        intro b
        simp only [hot, colHot]
        by_cases h1 : k.val < 225
        · simp only [if_pos h1]
        · simp only [if_neg h1, if_neg (show ¬ k.val < 227 by omega)]
      simp only [hj, sub_self]
  have e2 : W.onehotE b true o - W.onehotE b false o = W.onehotE zeroRow true o - W.onehotE zeroRow false o := by
    simp only [onehotE, add_sub_add_right_eq_sub, ← Finset.sum_sub_distrib, ← sub_mul, e]
  simp only [pok, mov, zeroRow] at *
  linarith

end Weights

end Cert.Emb

end
-- ==== Proof.Emb.Tables.lean ====
/- The kernel's literal tables over the probes, read entry by entry: the row numbers (`1`, or `2` where the probe's bit is
   set), the item-effect and power-point one-hot rows, and the 250 one-hot columns. Of the columns the first side is read at
   every probe, the last side at the all-zero probe. -/
module

public import proofs.«01_k».proof.Proof.Gen.KernelIdeal.Frame
public import proofs.«01_k».proof.Proof.Emb.Affine
public import Idealize.ShloMosaic.Lib.Pointwise

@[expose] public section

set_option maxRecDepth 16384

noncomputable section

namespace Cert.Emb.Tables

open Cert.KernelIdeal Cert.KernelIdeal.Gen Idealize.ShloMosaic

/-- The pattern of one, or of zero. -/
def bitWord (v : Bool) : BitVec 32 := if v then 0x3F800000#32 else 0#32

/-- The name's row numbers: of the bit of feature 0. -/
theorem lit0_word : ∀ (r : Fin 37) (s : Fin 3),
    lit0 (S37x1x3x1x1.rowMajor (ix5 r 0 s 0 0)) = BitVec.ofNat 32 (rowNat (probe r 0)) := by
  decide +kernel

/-- The ability's row numbers: of the bit of feature 15. -/
theorem lit1_word : ∀ (r : Fin 37) (s : Fin 3),
    lit1 (S37x1x3x1x1.rowMajor (ix5 r 0 s 0 0)) = BitVec.ofNat 32 (rowNat (probe r 15)) := by
  decide +kernel

/-- The item's row numbers: of the bit of feature 17. -/
theorem lit2_word : ∀ (r : Fin 37) (s : Fin 3),
    lit2 (S37x1x3x1x1.rowMajor (ix5 r 0 s 0 0)) = BitVec.ofNat 32 (rowNat (probe r 17)) := by
  decide +kernel

/-- The item effect's one-hot row: of the bit of feature 19. -/
theorem lit3_word : ∀ (r : Fin 37) (s : Fin 3) (k : Fin 17),
    lit3 (S37x1x3x1x17.rowMajor (ix5 r 0 s 0 k)) = bitWord (k.val == (probe r 19).toNat) := by
  decide +kernel

/-- The moves' row numbers. -/
theorem lit4_word : ∀ (r : Fin 37) (s : Fin 3) (q : Fin 4),
    lit4 (S37x1x3x1x4x1.rowMajor (ix6 r 0 s 0 q 0)) = BitVec.ofNat 32 (rowNat (probe r (Weights.mvJ q))) := by
  decide +kernel

/-- The power points' one-hot rows. -/
theorem lit5_word : ∀ (r : Fin 37) (s : Fin 3) (q : Fin 4) (k : Fin 6),
    lit5 (S37x1x3x1x4x6.rowMajor (ix6 r 0 s 0 q k)) = bitWord (k.val == (probe r (Weights.ppJ q)).toNat) := by
  decide +kernel

/-- The one-hot columns of the first 18 probes, on the first side. -/
theorem lit6_low : ∀ (r : Fin 18) (k : Fin 250),
    lit6 ⟨r.val * 750 + k.val, by omega⟩ = bitWord (hot (probe ⟨r.val, by omega⟩) false k) := by
  decide +kernel

/-- The one-hot columns of the other 19 probes, on the first side. -/
theorem lit6_high : ∀ (r : Fin 19) (k : Fin 250),
    lit6 ⟨(18 + r.val) * 750 + k.val, by omega⟩ = bitWord (hot (probe ⟨18 + r.val, by omega⟩) false k) := by
  decide +kernel

/-- The one-hot columns of the all-zero probe on the last side. -/
theorem lit6_zero : ∀ (k : Fin 250), lit6 ⟨500 + k.val, by omega⟩ = bitWord (hot (probe 0) true k) := by
  decide +kernel

/-- The one-hot columns on the first side. -/
theorem lit6_first (r : Fin 37) (k : Fin 250) :
    lit6 (S37x1x3x1x250.rowMajor (ix5 r 0 0 0 k)) = bitWord (hot (probe r) false k) := by
  have hv : (S37x1x3x1x250.rowMajor (ix5 r 0 0 0 k)).val = r.val * 750 + k.val := by
    rw [Shape.rowMajor_val_five]
    show (((r.val * 1 + 0) * 3 + 0) * 1 + 0) * 250 + k.val = _
    omega
  by_cases h : r.val < 18
  · rw [← lit6_low ⟨r.val, h⟩ k]
    exact congrArg lit6 (Fin.ext hv)
  · have e := lit6_high ⟨r.val - 18, by omega⟩ k
    have hr : 18 + (r.val - 18) = r.val := by omega
    simp only [hr] at e
    rw [← e]
    exact congrArg lit6 (Fin.ext hv)

/-- The one-hot columns of the all-zero probe on the last side. -/
theorem lit6_last (k : Fin 250) :
    lit6 (S37x1x3x1x250.rowMajor (ix5 0 0 2 0 k)) = bitWord (hot (probe 0) true k) := by
  have hv : (S37x1x3x1x250.rowMajor (ix5 0 0 2 0 k)).val = 500 + k.val := by
    rw [Shape.rowMajor_val_five]
    show (((0 * 1 + 0) * 3 + 2) * 1 + 0) * 250 + k.val = _
    omega
  rw [← lit6_zero k]
  exact congrArg lit6 (Fin.ext hv)

end Cert.Emb.Tables
end
-- ==== Proof.Emb.Take.lean ====
/- Taking rows of a table at an array of row numbers, as the host prints it: the row numbers get a trailing axis of one, an
   index out of range would read the fill value, and a gather copies the rows. Where every row number is in range the result
   is the table's row (`take5_apply` for four index axes, `take6_apply` for five). -/
module

public import Idealize.ShloMosaic.Lib.ValueIdx
public import Idealize.ShloMosaic.Lib.Pointwise
public import Idealize.ShloMosaic.Lib.ReduceAll

@[expose] public section

set_option maxRecDepth 16384

noncomputable section

namespace Cert.Emb.Take

open Idealize.ShloMosaic

variable {α : Type} {N C n0 n1 n2 n3 n4 : ℕ}

/-- A gather of whole rows, with four index axes: the row the index word names, clamped into the table. -/
theorem gather_row5 (d : GatherDims ⟨2, ![N, C]⟩ ⟨5, ![n0, n1, n2, n3, 1]⟩ ⟨5, ![n0, n1, n2, n3, C]⟩)
    (hod : d.offsetDims = [4]) (hcd : d.collapsedSliceDims = [0]) (hob : d.operandBatchingDims = [])
    (hsb : d.startIndicesBatchingDims = []) (hsm : d.startIndexMap = [0]) (hiv : d.indexVectorDim = 4)
    (hss : d.sliceSizes = ![1, C]) (x : (⟨2, ![N, C]⟩ : Shape).Idx → α) (I : IVec ⟨5, ![n0, n1, n2, n3, 1]⟩ 32)
    (j0 : Fin n0) (j1 : Fin n1) (j2 : Fin n2) (j3 : Fin n3) (o : Fin C) (k : Fin N)
    (hk : (I (ix5 j0 j1 j2 j3 0)).toInt.toNat = k.val) :
    Host.gather d x I (ix5 j0 j1 j2 j3 o) = x (ix2 k o) := by
  obtain ⟨od, cd, ob, sb, sm, iv, ss, wf⟩ := d
  dsimp only at hod hcd hob hsb hsm hiv hss
  subst hod hcd hob hsb hsm hiv hss
  unfold Host.gather
  congr 1
  funext a
  apply Fin.ext
  match a with
  | ⟨0, _⟩ =>
    have e : GatherDims.siIdx (⟨[4], [0], [], [], [0], 4, ![1, C], wf⟩ : GatherDims ⟨2, ![N, C]⟩ ⟨5, ![n0, n1, n2, n3, 1]⟩ ⟨5, ![n0, n1, n2, n3, C]⟩)
        (ix5 j0 j1 j2 j3 o) ⟨0, Nat.zero_lt_one⟩ = ix5 j0 j1 j2 j3 0 := by
      funext b
      match b with
      | ⟨0, _⟩ => rfl
      | ⟨1, _⟩ => rfl
      | ⟨2, _⟩ => rfl
      | ⟨3, _⟩ => rfl
      | ⟨4, _⟩ => rfl
    have hlt := k.isLt
    show min (I (GatherDims.siIdx (⟨[4], [0], [], [], [0], 4, ![1, C], wf⟩ : GatherDims ⟨2, ![N, C]⟩ ⟨5, ![n0, n1, n2, n3, 1]⟩ ⟨5, ![n0, n1, n2, n3, C]⟩)
        (ix5 j0 j1 j2 j3 o) ⟨0, _⟩)).toInt.toNat (N - 1) + 0 + 0 = k.val
    rw [e, hk]
    omega
  | ⟨1, _⟩ =>
    show 0 + 0 + o.val = o.val
    omega

/-- The same with five index axes. -/
theorem gather_row6 (d : GatherDims ⟨2, ![N, C]⟩ ⟨6, ![n0, n1, n2, n3, n4, 1]⟩ ⟨6, ![n0, n1, n2, n3, n4, C]⟩)
    (hod : d.offsetDims = [5]) (hcd : d.collapsedSliceDims = [0]) (hob : d.operandBatchingDims = [])
    (hsb : d.startIndicesBatchingDims = []) (hsm : d.startIndexMap = [0]) (hiv : d.indexVectorDim = 5)
    (hss : d.sliceSizes = ![1, C]) (x : (⟨2, ![N, C]⟩ : Shape).Idx → α) (I : IVec ⟨6, ![n0, n1, n2, n3, n4, 1]⟩ 32)
    (j0 : Fin n0) (j1 : Fin n1) (j2 : Fin n2) (j3 : Fin n3) (j4 : Fin n4) (o : Fin C) (k : Fin N)
    (hk : (I (ix6 j0 j1 j2 j3 j4 0)).toInt.toNat = k.val) :
    Host.gather d x I (ix6 j0 j1 j2 j3 j4 o) = x (ix2 k o) := by
  obtain ⟨od, cd, ob, sb, sm, iv, ss, wf⟩ := d
  dsimp only at hod hcd hob hsb hsm hiv hss
  subst hod hcd hob hsb hsm hiv hss
  unfold Host.gather
  congr 1
  funext a
  apply Fin.ext
  match a with
  | ⟨0, _⟩ =>
    have e : GatherDims.siIdx (⟨[5], [0], [], [], [0], 5, ![1, C], wf⟩ : GatherDims ⟨2, ![N, C]⟩ ⟨6, ![n0, n1, n2, n3, n4, 1]⟩ ⟨6, ![n0, n1, n2, n3, n4, C]⟩)
        (ix6 j0 j1 j2 j3 j4 o) ⟨0, Nat.zero_lt_one⟩ = ix6 j0 j1 j2 j3 j4 0 := by
      funext b
      match b with
      | ⟨0, _⟩ => rfl
      | ⟨1, _⟩ => rfl
      | ⟨2, _⟩ => rfl
      | ⟨3, _⟩ => rfl
      | ⟨4, _⟩ => rfl
      | ⟨5, _⟩ => rfl
    have hlt := k.isLt
    show min (I (GatherDims.siIdx (⟨[5], [0], [], [], [0], 5, ![1, C], wf⟩ : GatherDims ⟨2, ![N, C]⟩ ⟨6, ![n0, n1, n2, n3, n4, 1]⟩ ⟨6, ![n0, n1, n2, n3, n4, C]⟩)
        (ix6 j0 j1 j2 j3 j4 o) ⟨0, _⟩)).toInt.toNat (N - 1) + 0 + 0 = k.val
    rw [e, hk]
    omega
  | ⟨1, _⟩ =>
    show 0 + 0 + o.val = o.val
    omega

/-- A word below `2^31` is what it reads as a signed number. -/
theorem toInt_ofNat (k : ℕ) (hk : k < 2 ^ 31) : (BitVec.ofNat 32 k).toInt = (k : ℤ) := by
  have h : (BitVec.ofNat 32 k).toNat = k := by rw [BitVec.toNat_ofNat]; omega
  rw [BitVec.toInt_eq_toNat_of_lt (by rw [h]; omega), h]

/-- A gather of whole rows at words that are row numbers, four index axes. -/
theorem gather_word5 (d : GatherDims ⟨2, ![N, C]⟩ ⟨5, ![n0, n1, n2, n3, 1]⟩ ⟨5, ![n0, n1, n2, n3, C]⟩)
    (hod : d.offsetDims = [4]) (hcd : d.collapsedSliceDims = [0]) (hob : d.operandBatchingDims = [])
    (hsb : d.startIndicesBatchingDims = []) (hsm : d.startIndexMap = [0]) (hiv : d.indexVectorDim = 4)
    (hss : d.sliceSizes = ![1, C]) (x : (⟨2, ![N, C]⟩ : Shape).Idx → α) (I : IVec ⟨5, ![n0, n1, n2, n3, 1]⟩ 32)
    (j0 : Fin n0) (j1 : Fin n1) (j2 : Fin n2) (j3 : Fin n3) (o : Fin C) (k : Fin N) (hN : N < 2 ^ 31)
    (hk : I (ix5 j0 j1 j2 j3 0) = BitVec.ofNat 32 k.val) :
    Host.gather d x I (ix5 j0 j1 j2 j3 o) = x (ix2 k o) := by
  refine gather_row5 d hod hcd hob hsb hsm hiv hss x I j0 j1 j2 j3 o k ?_
  rw [hk, toInt_ofNat _ (by have := k.isLt; omega)]
  rfl

/-- The same with five index axes. -/
theorem gather_word6 (d : GatherDims ⟨2, ![N, C]⟩ ⟨6, ![n0, n1, n2, n3, n4, 1]⟩ ⟨6, ![n0, n1, n2, n3, n4, C]⟩)
    (hod : d.offsetDims = [5]) (hcd : d.collapsedSliceDims = [0]) (hob : d.operandBatchingDims = [])
    (hsb : d.startIndicesBatchingDims = []) (hsm : d.startIndexMap = [0]) (hiv : d.indexVectorDim = 5)
    (hss : d.sliceSizes = ![1, C]) (x : (⟨2, ![N, C]⟩ : Shape).Idx → α) (I : IVec ⟨6, ![n0, n1, n2, n3, n4, 1]⟩ 32)
    (j0 : Fin n0) (j1 : Fin n1) (j2 : Fin n2) (j3 : Fin n3) (j4 : Fin n4) (o : Fin C) (k : Fin N) (hN : N < 2 ^ 31)
    (hk : I (ix6 j0 j1 j2 j3 j4 0) = BitVec.ofNat 32 k.val) :
    Host.gather d x I (ix6 j0 j1 j2 j3 j4 o) = x (ix2 k o) := by
  refine gather_row6 d hod hcd hob hsb hsm hiv hss x I j0 j1 j2 j3 j4 o k ?_
  rw [hk, toInt_ofNat _ (by have := k.isLt; omega)]
  rfl

/-- The range test of an index word in range is one. -/
theorem in_range (k M : ℕ) (hM : M < 2 ^ 31) (hk : k ≤ M) :
    IntOp.andi (IntOp.cmpi .sge (BitVec.ofNat 32 k) 0#32) (IntOp.cmpi .sle (BitVec.ofNat 32 k) (BitVec.ofNat 32 M)) = 1#1 := by
  have h1 : (0#32).sle (BitVec.ofNat 32 k) = true := by
    rw [BitVec.sle_iff_toInt_le, toInt_ofNat k (by omega)]; simp
  have h2 : (BitVec.ofNat 32 k).sle (BitVec.ofNat 32 M) = true := by
    rw [BitVec.sle_iff_toInt_le, toInt_ofNat k (by omega), toInt_ofNat M hM]; omega
  simp [IntOp.cmpi, h1, h2, IntOp.andi]

/-- An index word in range is not negative, so the wrapped form of it is the word itself. -/
theorem wrap_word (k : ℕ) (hk : k < 2 ^ 31) (w : BitVec 32) :
    Scalar.select (IntOp.cmpi .slt (BitVec.ofNat 32 k) 0#32) w (BitVec.ofNat 32 k) = BitVec.ofNat 32 k := by
  have h : (BitVec.ofNat 32 k).slt 0#32 = false := by
    rw [Bool.eq_false_iff, ne_eq, BitVec.slt_iff_toInt_lt, toInt_ofNat k hk]; simp
  simp [IntOp.cmpi, h, Scalar.select]

/-- Taking rows in range, four index axes: the table's row. `I` is the row numbers with their trailing axis of one, `lo` and
    `hi` the bounds they are tested against. -/
theorem take5_apply (d : GatherDims ⟨2, ![N, C]⟩ ⟨5, ![n0, n1, n2, n3, 1]⟩ ⟨5, ![n0, n1, n2, n3, C]⟩)
    (hod : d.offsetDims = [4]) (hcd : d.collapsedSliceDims = [0]) (hob : d.operandBatchingDims = [])
    (hsb : d.startIndicesBatchingDims = []) (hsm : d.startIndexMap = [0]) (hiv : d.indexVectorDim = 4)
    (hss : d.sliceSizes = ![1, C]) (x : (⟨2, ![N, C]⟩ : Shape).Idx → α) (I lo hi : IVec ⟨5, ![n0, n1, n2, n3, 1]⟩ 32)
    (k : Fin n0 → Fin n1 → Fin n2 → Fin n3 → Fin N) (hN : N < 2 ^ 31)
    (hI : ∀ a b c e, I (ix5 a b c e 0) = BitVec.ofNat 32 (k a b c e).val)
    (hlo : ∀ i, lo i = 0#32) (hhi : ∀ i, hi i = BitVec.ofNat 32 (N - 1))
    {u v : Shape} (one : u.Idx → BitVec 1) (hone : ∀ i, one i = 1#1) (dims : Fin v.rank → Fin 5) (hb)
    (hr : (⟨5, ![n0, n1, n2, n3, 1]⟩ : Shape).ReducesTo [4] v) (hu : 0 < u.numel)
    (nan : (⟨5, ![n0, n1, n2, n3, C]⟩ : Shape).Idx → α)
    (j0 : Fin n0) (j1 : Fin n1) (j2 : Fin n2) (j3 : Fin n3) (o : Fin C) :
    select (broadcastInDim ⟨5, ![n0, n1, n2, n3, C]⟩ dims hb
        (Host.reduce IntOp.andi (andi (cmpi .sge I lo) (cmpi .sle I hi)) one hr hu)) (Host.gather d x I) nan (ix5 j0 j1 j2 j3 o)
      = x (ix2 (k j0 j1 j2 j3) o) := by
  have hred : ∀ j, Host.reduce IntOp.andi (andi (cmpi .sge I lo) (cmpi .sle I hi)) one hr hu j = 1#1 := fun j => by
    refine Host.reduce_andi_one _ _ hr hu j (hone _) fun i => ?_
    obtain ⟨a, b, c, e, z, rfl⟩ : ∃ a b c e z, i = ix5 a b c e z := ⟨i 0, i 1, i 2, i 3, i 4, eq_ix5 i⟩
    obtain rfl : z = 0 := Subsingleton.elim _ _
    show IntOp.andi (IntOp.cmpi .sge (I _) (lo _)) (IntOp.cmpi .sle (I _) (hi _)) = 1#1
    rw [hI, hlo, hhi]
    exact in_range _ _ (by omega) (by have := (k a b c e).isLt; omega)
  show Scalar.select (Host.reduce IntOp.andi (andi (cmpi .sge I lo) (cmpi .sle I hi)) one hr hu _) _ _ = _
  rw [hred]
  refine (gather_row5 d hod hcd hob hsb hsm hiv hss x I j0 j1 j2 j3 o (k j0 j1 j2 j3) ?_ : _)
  rw [hI, toInt_ofNat _ (by have := (k j0 j1 j2 j3).isLt; omega)]
  rfl

/-- Taking rows in range, five index axes. -/
theorem take6_apply (d : GatherDims ⟨2, ![N, C]⟩ ⟨6, ![n0, n1, n2, n3, n4, 1]⟩ ⟨6, ![n0, n1, n2, n3, n4, C]⟩)
    (hod : d.offsetDims = [5]) (hcd : d.collapsedSliceDims = [0]) (hob : d.operandBatchingDims = [])
    (hsb : d.startIndicesBatchingDims = []) (hsm : d.startIndexMap = [0]) (hiv : d.indexVectorDim = 5)
    (hss : d.sliceSizes = ![1, C]) (x : (⟨2, ![N, C]⟩ : Shape).Idx → α) (I lo hi : IVec ⟨6, ![n0, n1, n2, n3, n4, 1]⟩ 32)
    (k : Fin n0 → Fin n1 → Fin n2 → Fin n3 → Fin n4 → Fin N) (hN : N < 2 ^ 31)
    (hI : ∀ a b c e f, I (ix6 a b c e f 0) = BitVec.ofNat 32 (k a b c e f).val)
    (hlo : ∀ i, lo i = 0#32) (hhi : ∀ i, hi i = BitVec.ofNat 32 (N - 1))
    {u v : Shape} (one : u.Idx → BitVec 1) (hone : ∀ i, one i = 1#1) (dims : Fin v.rank → Fin 6) (hb)
    (hr : (⟨6, ![n0, n1, n2, n3, n4, 1]⟩ : Shape).ReducesTo [5] v) (hu : 0 < u.numel)
    (nan : (⟨6, ![n0, n1, n2, n3, n4, C]⟩ : Shape).Idx → α)
    (j0 : Fin n0) (j1 : Fin n1) (j2 : Fin n2) (j3 : Fin n3) (j4 : Fin n4) (o : Fin C) :
    select (broadcastInDim ⟨6, ![n0, n1, n2, n3, n4, C]⟩ dims hb
        (Host.reduce IntOp.andi (andi (cmpi .sge I lo) (cmpi .sle I hi)) one hr hu)) (Host.gather d x I) nan (ix6 j0 j1 j2 j3 j4 o)
      = x (ix2 (k j0 j1 j2 j3 j4) o) := by
  have hred : ∀ j, Host.reduce IntOp.andi (andi (cmpi .sge I lo) (cmpi .sle I hi)) one hr hu j = 1#1 := fun j => by
    refine Host.reduce_andi_one _ _ hr hu j (hone _) fun i => ?_
    obtain ⟨a, b, c, e, f, z, rfl⟩ : ∃ a b c e f z, i = ix6 a b c e f z := ⟨i 0, i 1, i 2, i 3, i 4, i 5, eq_ix6 i⟩
    obtain rfl : z = 0 := Subsingleton.elim _ _
    show IntOp.andi (IntOp.cmpi .sge (I _) (lo _)) (IntOp.cmpi .sle (I _) (hi _)) = 1#1
    rw [hI, hlo, hhi]
    exact in_range _ _ (by omega) (by have := (k a b c e f).isLt; omega)
  show Scalar.select (Host.reduce IntOp.andi (andi (cmpi .sge I lo) (cmpi .sle I hi)) one hr hu _) _ _ = _
  rw [hred]
  refine (gather_row6 d hod hcd hob hsb hsm hiv hss x I j0 j1 j2 j3 j4 o (k j0 j1 j2 j3 j4) ?_ : _)
  rw [hI, toInt_ofNat _ (by have := (k j0 j1 j2 j3 j4).isLt; omega)]
  rfl

end Cert.Emb.Take
end
-- ==== Proof.Emb.Holds.lean ====
/- The argument tables hold the weights: every entry is a real number (`Holds`). Sums of products of real numbers are real. -/
module

public import proofs.«01_k».proof.Proof.Emb.Affine
public import Idealize.ShloMosaic.Lib.Pointwise
public import Idealize.ShloMosaic.Lib.IdealHost

@[expose] public section

set_option maxRecDepth 16384

noncomputable section

namespace Cert.Emb

open Idealize.ShloMosaic

/-- The tables, weights and biases are the real numbers of `W`. -/
structure Holds (W : Weights) (A1 : FVec Ideal ⟨2, ![1318, 128]⟩ .f32) (A2 : FVec Ideal ⟨2, ![128, 128]⟩ .f32)
    (A3 : FVec Ideal ⟨1, ![128]⟩ .f32) (A4 : FVec Ideal ⟨2, ![314, 64]⟩ .f32) (A5 : FVec Ideal ⟨2, ![64, 128]⟩ .f32)
    (A6 : FVec Ideal ⟨1, ![128]⟩ .f32) (A7 : FVec Ideal ⟨2, ![528, 64]⟩ .f32) (A8 : FVec Ideal ⟨2, ![81, 128]⟩ .f32)
    (A9 : FVec Ideal ⟨1, ![128]⟩ .f32) (A10 : FVec Ideal ⟨2, ![919, 128]⟩ .f32) (A11 : FVec Ideal ⟨2, ![134, 128]⟩ .f32)
    (A12 : FVec Ideal ⟨1, ![128]⟩ .f32) (A15 : FVec Ideal ⟨2, ![250, 128]⟩ .f32) (A16 : FVec Ideal ⟨1, ![128]⟩ .f32) : Prop where
  pokT : ∀ i o, A1 (ix2 i o) = ((W.pokT i o : ℝ) : EReal)
  pokW : ∀ i o, A2 (ix2 i o) = ((W.pokW i o : ℝ) : EReal)
  pokB : ∀ o, A3 (ix1 o) = ((W.pokB o : ℝ) : EReal)
  abT : ∀ i o, A4 (ix2 i o) = ((W.abT i o : ℝ) : EReal)
  abW : ∀ i o, A5 (ix2 i o) = ((W.abW i o : ℝ) : EReal)
  abB : ∀ o, A6 (ix1 o) = ((W.abB o : ℝ) : EReal)
  itT : ∀ i o, A7 (ix2 i o) = ((W.itT i o : ℝ) : EReal)
  itW : ∀ i o, A8 (ix2 i o) = ((W.itW i o : ℝ) : EReal)
  itB : ∀ o, A9 (ix1 o) = ((W.itB o : ℝ) : EReal)
  mvT : ∀ i o, A10 (ix2 i o) = ((W.mvT i o : ℝ) : EReal)
  mvW : ∀ i o, A11 (ix2 i o) = ((W.mvW i o : ℝ) : EReal)
  mvB : ∀ o, A12 (ix1 o) = ((W.mvB o : ℝ) : EReal)
  ohW : ∀ i o, A15 (ix2 i o) = ((W.ohW i o : ℝ) : EReal)
  ohB : ∀ o, A16 (ix1 o) = ((W.ohB o : ℝ) : EReal)

/-- A sum of real numbers. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A sum of products of real numbers. -/
theorem coe_sum_mul {n : ℕ} (f g : Fin n → ℝ) :
    ∑ k, ((f k : ℝ) : EReal) * ((g k : ℝ) : EReal) = ((∑ k, f k * g k : ℝ) : EReal) := by
  rw [← coe_sum]
  exact Finset.sum_congr rfl fun k _ => (EReal.coe_mul _ _).symm

/-- The pattern of one or of zero, as a number. -/
theorem ofBits_bit (v : Bool) : Ideal.ofBits .f32 (if v then 0x3F800000#32 else 0#32) = ((bitR v : ℝ) : EReal) := by
  cases v
  · simp [bitR]
  · simp [bitR]

end Cert.Emb
end
-- ==== Proof.Emb.Reduce.lean ====
/- The host's sum over one axis of a rank-6 or a rank-7 array, entry by entry. -/
module

public import Idealize.ShloMosaic.Lib.Pointwise

@[expose] public section

set_option maxRecDepth 16384

noncomputable section

namespace Cert.Emb

open Idealize.ShloMosaic

variable {n0 n1 n2 n3 n4 n5 n6 : ℕ}

/-- The sum over axis 4 of six. -/
theorem hostReduceAdd_r6_a4 (h' : (⟨6, ![n0, n1, n2, n3, n4, n5]⟩ : Shape).ReducesTo [4] ⟨5, ![n0, n1, n2, n3, n5]⟩)
    (h : (⟨6, ![n0, n1, n2, n3, n4, n5]⟩ : Shape).Reduces [4] ⟨5, ![n0, n1, n2, n3, n5]⟩)
    (x : (⟨6, ![n0, n1, n2, n3, n4, n5]⟩ : Shape).Idx → EReal) (init : EReal) (a : Fin n0) (b : Fin n1) (c : Fin n2) (d : Fin n3) (o : Fin n5) :
    Ideal.hostReduceAdd h' x init (ix5 a b c d o) = init + ∑ k : Fin n4, x (ix6 a b c d k o) := by
  rw [Ideal.hostReduceAdd_single h' h]
  refine congrArg (init + ·) (Finset.sum_congr rfl fun k _ => congrArg x ?_)
  funext e
  match e with
  | ⟨0, _⟩ => rfl
  | ⟨1, _⟩ => rfl
  | ⟨2, _⟩ => rfl
  | ⟨3, _⟩ => rfl
  | ⟨4, _⟩ => rfl
  | ⟨5, _⟩ => rfl

/-- The sum over axis 5 of seven. -/
theorem hostReduceAdd_r7_a5 (h' : (⟨7, ![n0, n1, n2, n3, n4, n5, n6]⟩ : Shape).ReducesTo [5] ⟨6, ![n0, n1, n2, n3, n4, n6]⟩)
    (h : (⟨7, ![n0, n1, n2, n3, n4, n5, n6]⟩ : Shape).Reduces [5] ⟨6, ![n0, n1, n2, n3, n4, n6]⟩)
    (x : (⟨7, ![n0, n1, n2, n3, n4, n5, n6]⟩ : Shape).Idx → EReal) (init : EReal)
    (a : Fin n0) (b : Fin n1) (c : Fin n2) (d : Fin n3) (q : Fin n4) (o : Fin n6) :
    Ideal.hostReduceAdd h' x init (ix6 a b c d q o) = init + ∑ k : Fin n5, x (ix7 a b c d q k o) := by
  rw [Ideal.hostReduceAdd_single h' h]
  refine congrArg (init + ·) (Finset.sum_congr rfl fun k _ => congrArg x ?_)
  funext e
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

end Cert.Emb
end
-- ==== Proof.Emb.Probe.lean ====
/- The probe arrays, entry by entry, where the tables are real: the embedding and the four moves of each probe row
   (`pkP_apply`, `mvP_apply`). -/
module

public import proofs.«01_k».proof.Proof.Emb.Entry
public import proofs.«01_k».proof.Proof.Emb.Tables
public import proofs.«01_k».proof.Proof.Emb.Take
public import proofs.«01_k».proof.Proof.Emb.Holds
public import proofs.«01_k».proof.Proof.Emb.Reduce

@[expose] public section

set_option maxRecDepth 16384

noncomputable section

namespace Cert.Emb.Probe

open Cert.KernelIdeal Cert.KernelIdeal.Gen Cert.Emb.Entry Cert.Emb.Tables Idealize.ShloMosaic

/-- A row number is small. -/
theorem rowNat_lt (v : Bool) : rowNat v < 3 := by cases v <;> decide

/-- A row number as a row of a table of three rows or more. -/
def rowFin (N : ℕ) (hN : 3 ≤ N) (v : Bool) : Fin N := ⟨rowNat v, by have := rowNat_lt v; omega⟩

/-- The name's row number of a probe. -/
theorem nameIx_apply (r : Fin 37) (s : Fin 3) : nameIx (ix5 r 0 s 0 0) = BitVec.ofNat 32 (rowNat (probe r 0)) := lit0_word r s
/-- The ability's. -/
theorem abilityIx_apply (r : Fin 37) (s : Fin 3) : abilityIx (ix5 r 0 s 0 0) = BitVec.ofNat 32 (rowNat (probe r 15)) := lit1_word r s
/-- The item's. -/
theorem itemIx_apply (r : Fin 37) (s : Fin 3) : itemIx (ix5 r 0 s 0 0) = BitVec.ofNat 32 (rowNat (probe r 17)) := lit2_word r s
/-- A move's. -/
theorem moveIx_apply (r : Fin 37) (s : Fin 3) (q : Fin 4) :
    moveIx (ix6 r 0 s 0 q 0) = BitVec.ofNat 32 (rowNat (probe r (Weights.mvJ q))) := lit4_word r s q
/-- An item-effect column of a probe. -/
theorem effOh_apply (r : Fin 37) (s : Fin 3) (k : Fin 17) :
    effOh (ix5 r 0 s 0 k) = ((bitR (k.val == (probe r 19).toNat) : ℝ) : EReal) :=
  (congrArg (Ideal.ofBits .f32) (lit3_word r s k)).trans (ofBits_bit _)
/-- A power-point column of a probe's move. -/
theorem ppOh_apply (r : Fin 37) (s : Fin 3) (q : Fin 4) (k : Fin 6) :
    ppOh (ix6 r 0 s 0 q k) = ((bitR (k.val == (probe r (Weights.ppJ q)).toNat) : ℝ) : EReal) :=
  (congrArg (Ideal.ofBits .f32) (lit5_word r s q k)).trans (ofBits_bit _)
/-- A one-hot column of a probe, on the first side. -/
theorem colOh_first (r : Fin 37) (k : Fin 250) : colOh (ix5 r 0 0 0 k) = ((bitR (hot (probe r) false k) : ℝ) : EReal) :=
  (congrArg (Ideal.ofBits .f32) (lit6_first r k)).trans (ofBits_bit _)
/-- A one-hot column of the all-zero probe, on the last side. -/
theorem colOh_last (k : Fin 250) : colOh (ix5 0 0 2 0 k) = ((bitR (hot (probe 0) true k) : ℝ) : EReal) :=
  (congrArg (Ideal.ofBits .f32) (lit6_last k)).trans (ofBits_bit _)

/-- Rows of the name table. -/
theorem nameT_apply (T : FVec Ideal S1318x128 .f32) (r : Fin 37) (s : Fin 3) (o : Fin 128) :
    nameT T (ix5 r 0 s 0 o) = T (ix2 (rowFin 1318 (by omega) (probe r 0)) o) :=
  Take.gather_word5 _ rfl rfl rfl rfl rfl rfl rfl T _ r 0 s 0 o _ (by omega) (nameIx_apply r s)

/-- Rows of the ability table. -/
theorem abilityT_apply (T : FVec Ideal S314x64 .f32) (r : Fin 37) (s : Fin 3) (o : Fin 64) :
    abilityT T (ix5 r 0 s 0 o) = T (ix2 (rowFin 314 (by omega) (probe r 15)) o) :=
  Take.gather_word5 _ rfl rfl rfl rfl rfl rfl rfl T _ r 0 s 0 o _ (by omega) (abilityIx_apply r s)

/-- Rows of the item table. -/
theorem itemT_apply (T : FVec Ideal S528x64 .f32) (r : Fin 37) (s : Fin 3) (o : Fin 64) :
    itemT T (ix5 r 0 s 0 o) = T (ix2 (rowFin 528 (by omega) (probe r 17)) o) :=
  Take.gather_word5 _ rfl rfl rfl rfl rfl rfl rfl T _ r 0 s 0 o _ (by omega) (itemIx_apply r s)

/-- Rows of the move table. -/
theorem moveT_apply (T : FVec Ideal S919x128 .f32) (r : Fin 37) (s : Fin 3) (q : Fin 4) (o : Fin 128) :
    moveT T (ix6 r 0 s 0 q o) = T (ix2 (rowFin 919 (by omega) (probe r (Weights.mvJ q))) o) :=
  Take.gather_word6 _ rfl rfl rfl rfl rfl rfl rfl T _ r 0 s 0 q o _ (by omega) (moveIx_apply r s q)

variable {W : Weights} {A1 : FVec Ideal S1318x128 .f32} {A2 : FVec Ideal S128x128 .f32}
    {A3 : FVec Ideal S128 .f32} {A4 : FVec Ideal S314x64 .f32} {A5 : FVec Ideal S64x128 .f32}
    {A6 : FVec Ideal S128 .f32} {A7 : FVec Ideal S528x64 .f32} {A8 : FVec Ideal S81x128 .f32}
    {A9 : FVec Ideal S128 .f32} {A10 : FVec Ideal S919x128 .f32} {A11 : FVec Ideal S134x128 .f32}
    {A12 : FVec Ideal S128 .f32} {A15 : FVec Ideal S250x128 .f32} {A16 : FVec Ideal S128 .f32}
    (H : Holds W A1 A2 A3 A4 A5 A6 A7 A8 A9 A10 A11 A12 A15 A16)

include H

/-- The name's embedding of a probe. -/
theorem nameP_apply (r : Fin 37) (s : Fin 3) (o : Fin 128) :
    nameP A1 A2 A3 (ix5 r 0 s 0 o) = ((W.nameE (probe r 0) o : ℝ) : EReal) := by
  unfold nameP bias4
  pointwise
  simp only [nameT_apply, H.pokT, H.pokW, H.pokB, coe_sum_mul, ← EReal.coe_add]
  rfl

/-- The ability's embedding of a probe. -/
theorem abilityP_apply (r : Fin 37) (s : Fin 3) (o : Fin 128) :
    abilityP A4 A5 A6 (ix5 r 0 s 0 o) = ((W.abilityE (probe r 15) o : ℝ) : EReal) := by
  unfold abilityP bias4
  pointwise
  simp only [abilityT_apply, H.abT, H.abW, H.abB, coe_sum_mul, ← EReal.coe_add]
  rfl

/-- The item's embedding of a probe. -/
theorem itemP_apply (r : Fin 37) (s : Fin 3) (o : Fin 128) :
    itemP A7 A8 A9 (ix5 r 0 s 0 o) = ((W.itemE (probe r 17) (probe r 19) o : ℝ) : EReal) := by
  unfold itemP bias4
  pointwise
  rw [hostReduceAdd_r6_a4 _ (by decide)]
  pointwise
  simp only [itemT_apply, effOh_apply, H.itT, H.itW, H.itB, coe_sum_mul, ← EReal.coe_add]
  rfl

/-- A move's embedding of a probe. -/
theorem mvP_apply (r : Fin 37) (s : Fin 3) (q : Fin 4) (o : Fin 128) :
    mvP A10 A11 A12 (ix6 r 0 s 0 q o) = ((W.mov (probe r) q o : ℝ) : EReal) := by
  unfold mvP
  pointwise
  rw [hostReduceAdd_r7_a5 _ (by decide)]
  pointwise
  simp only [moveT_apply, ppOh_apply, H.mvT, H.mvW, H.mvB, coe_sum_mul, ← EReal.coe_add]
  rfl

/-- The one-hot columns' embedding of a probe whose columns are known bits. -/
theorem ohP_apply (r : Fin 37) (s : Fin 3) (b : Row) (last : Bool) (o : Fin 128)
    (h : ∀ k : Fin 250, colOh (ix5 r 0 s 0 k) = ((bitR (hot b last k) : ℝ) : EReal)) :
    ohP A15 A16 (ix5 r 0 s 0 o) = ((W.onehotE b last o : ℝ) : EReal) := by
  unfold ohP bias4
  pointwise
  rw [hostReduceAdd_r6_a4 _ (by decide)]
  pointwise
  simp only [h, H.ohW, H.ohB, coe_sum_mul, ← EReal.coe_add]
  rfl

/-- The one-hot columns' embedding of a probe, on the first side. -/
theorem ohP_first (r : Fin 37) (o : Fin 128) :
    ohP A15 A16 (ix5 r 0 0 0 o) = ((W.onehotE (probe r) false o : ℝ) : EReal) :=
  ohP_apply H r 0 _ _ o fun k => colOh_first r k

/-- The one-hot columns' embedding of the all-zero probe, on the last side. -/
theorem ohP_last (o : Fin 128) :
    ohP A15 A16 (ix5 0 0 2 0 o) = ((W.onehotE (probe 0) true o : ℝ) : EReal) :=
  ohP_apply H 0 2 _ _ o fun k => colOh_last k

/-- The whole embedding of a probe, given its one-hot part. -/
theorem pkP_apply (r : Fin 37) (s : Fin 3) (o : Fin 128) (last : Bool)
    (h : ohP A15 A16 (ix5 r 0 s 0 o) = ((W.onehotE (probe r) last o : ℝ) : EReal)) :
    pkP (nameP A1 A2 A3) (abilityP A4 A5 A6) (itemP A7 A8 A9) (mvP A10 A11 A12) (ohP A15 A16) (ix5 r 0 s 0 o)
      = ((W.pok (probe r) last o : ℝ) : EReal) := by
  unfold pkP
  pointwise
  rw [hostReduceAdd_r6_a4 _ (by decide)]
  pointwise
  simp only [nameP_apply H, abilityP_apply H, itemP_apply H, mvP_apply H, h, coe_sum, ← EReal.coe_add]
  rfl

end Cert.Emb.Probe
end
-- ==== Proof.Emb.Comb.lean ====
module

public import proofs.«01_k».proof.Proof.Emb.Probe
public import Idealize.ShloMosaic.Lib.Pointwise

/-!
# The combined weights, entry by entry

The combined weights, the base row and the last side's row, as real numbers.
-/

@[expose] public section

set_option maxRecDepth 16384

noncomputable section

namespace Cert.Emb.Comb

open Cert.KernelIdeal Cert.KernelIdeal.Gen Cert.Emb.Entry Idealize.ShloMosaic

/-- A feature's row of the embedding's weights. -/
theorem wName_apply (P : FVec Ideal S37x1x3x1x128 .f32) (j : Fin 36) (o : Fin 128) :
    wName P (ix2 j o) = P (ix5 j.succ 0 0 0 o) - P (ix5 0 0 0 0 o) := by
  unfold wName row0 side0
  pointwise
  have e : (⟨1 + j.val, by omega⟩ : Fin 37) = j.succ := Fin.ext (Nat.add_comm 1 j.val)
  rw [e]

/-- A feature's row of the moves' weights. -/
theorem wMoves_apply (M : FVec Ideal S37x1x3x1x4x128 .f32) (j : Fin 36) (q : Fin 4) (o : Fin 128) :
    wMoves M (ix2 j ⟨q.val * 128 + o.val, by omega⟩) = M (ix6 j.succ 0 0 0 q o) - M (ix6 0 0 0 0 q o) := by
  unfold wMoves moves0
  pointwise
  have e : (⟨1 + j.val, by omega⟩ : Fin 37) = j.succ := Fin.ext (Nat.add_comm 1 j.val)
  rw [e]

/-- What the last side adds. -/
theorem cDelta_apply (P : FVec Ideal S37x1x3x1x128 .f32) (o : Fin 128) :
    cDelta P (ix2 0 o) = P (ix5 0 0 2 0 o) - P (ix5 0 0 0 0 o) := by
  unfold cDelta row0 side0
  pointwise

/-- The embedding's columns of the combined weights. -/
theorem wComb_name (P : FVec Ideal S37x1x3x1x128 .f32) (M : FVec Ideal S37x1x3x1x4x128 .f32) (j : Fin 36) (o : Fin 128) :
    wComb P M (ix2 j ⟨o.val, by omega⟩) = P (ix5 j.succ 0 0 0 o) - P (ix5 0 0 0 0 o) := by
  rw [← wName_apply]
  unfold wComb catW
  pointwise

/-- The moves' columns of the combined weights. -/
theorem wComb_move (P : FVec Ideal S37x1x3x1x128 .f32) (M : FVec Ideal S37x1x3x1x4x128 .f32) (j : Fin 36) (q : Fin 4) (o : Fin 128) :
    wComb P M (ix2 j ⟨128 + (q.val * 128 + o.val), by omega⟩) = M (ix6 j.succ 0 0 0 q o) - M (ix6 0 0 0 0 q o) := by
  rw [← wMoves_apply]
  unfold wComb catW
  pointwise

/-- The embedding's columns of the base row. -/
theorem cBase_name (P : FVec Ideal S37x1x3x1x128 .f32) (M : FVec Ideal S37x1x3x1x4x128 .f32) (o : Fin 128) :
    cBase P M (ix2 0 ⟨o.val, by omega⟩) = P (ix5 0 0 0 0 o) := by
  unfold cBase catB row0 side0
  pointwise

/-- The moves' columns of the base row. -/
theorem cBase_move (P : FVec Ideal S37x1x3x1x128 .f32) (M : FVec Ideal S37x1x3x1x4x128 .f32) (q : Fin 4) (o : Fin 128) :
    cBase P M (ix2 0 ⟨128 + (q.val * 128 + o.val), by omega⟩) = M (ix6 0 0 0 0 q o) := by
  unfold cBase catB baseMoves moves0
  pointwise

end Cert.Emb.Comb
end
-- ==== Proof.Emb.Block.lean ====
/- What one block of the kernel computes, at the exact reals: the block of 4608 feature rows against the 36 rows of the
   combined weights, plus the base row (`acc_apply`); the first output's block adds the side's row where the place among a
   time's 18 is 12 or more (`out4_apply`); the second output's block is the other 512 columns, 128 to a row (`out5_apply`). -/
module

public import proofs.«01_k».proof.Proof.Gen.KernelIdeal.Frame
public import Idealize.ShloMosaic.Lib.ValueIdx
public import Idealize.ShloMosaic.Lib.Pointwise

@[expose] public section

set_option maxRecDepth 16384

noncomputable section

namespace Cert.Emb.Block

open Cert.KernelIdeal Cert.KernelIdeal.Gen Idealize.ShloMosaic

/-- The factor of the side's row at place `q` of 18: one on the last side, zero before. -/
def lastE (q : ℕ) : EReal := if 12 ≤ q then 1 else 0

/-- The kernel's mask word at flat row `r`: one where `r % 18` is 12 or more. -/
theorem mask_word : ∀ r : Fin 4608,
    (BitVec.setWidth 32
      (IntOp.cmpi CmpIPredicate.sge
        (Scalar.select
          (IntOp.andi
            (IntOp.xori
              (IntOp.cmpi CmpIPredicate.slt
                (IntOp.remsi ArithUnit.vector (BitVec.ofNat 32 r.val)
                  (Scalar.select (Scalar.cmpi CmpIPredicate.eq 18#32 0#32) 1#32 18#32))
                0#32)
              (Scalar.cmpi CmpIPredicate.slt (Scalar.select (Scalar.cmpi CmpIPredicate.eq 18#32 0#32) 1#32 18#32) 0#32))
            (IntOp.cmpi CmpIPredicate.ne
              (IntOp.remsi ArithUnit.vector (BitVec.ofNat 32 r.val)
                (Scalar.select (Scalar.cmpi CmpIPredicate.eq 18#32 0#32) 1#32 18#32))
              0#32))
          (IntOp.addi
            (IntOp.remsi ArithUnit.vector (BitVec.ofNat 32 r.val)
              (Scalar.select (Scalar.cmpi CmpIPredicate.eq 18#32 0#32) 1#32 18#32))
            (Scalar.select (Scalar.cmpi CmpIPredicate.eq 18#32 0#32) 1#32 18#32))
          (IntOp.remsi ArithUnit.vector (BitVec.ofNat 32 r.val)
            (Scalar.select (Scalar.cmpi CmpIPredicate.eq 18#32 0#32) 1#32 18#32)))
        12#32) : BitVec 32) = if 12 ≤ r.val % 18 then 1#32 else 0#32 := by
  decide +kernel

/-- The matrix product and the base row, at a flat row and a column. -/
theorem acc_apply (x : Vec Ideal S32x8x3x6x36 .f32) (w : Vec Ideal S36x640 .f32) (cb : Vec Ideal S1x640 .f32)
    (r : Fin 4608) (o : Fin 640) :
    k0_pay2 (F := Ideal) x w cb (ix2 r o)
      = ∑ j : Fin 36, x (ix5 ⟨r.val / 144, by omega⟩ ⟨r.val / 18 % 8, by omega⟩ ⟨r.val / 6 % 3, by omega⟩ ⟨r.val % 6, by omega⟩ j)
          * w (ix2 j o) + cb (ix2 0 o) := by
  unfold k0_pay2
  pointwise

/-- The first output's block. -/
theorem out4_apply (x : Vec Ideal S32x8x3x6x36 .f32) (w : Vec Ideal S36x640 .f32) (cb : Vec Ideal S1x640 .f32)
    (cd : Vec Ideal S1x128 .f32) (a : Fin 32) (q : Fin 18) (t : Fin 8) (o : Fin 128) :
    k0_pay3 (F := Ideal) x w cb cd (ix4 a q t o)
      = ∑ j : Fin 36, x (ix5 a t ⟨q.val / 6, by omega⟩ ⟨q.val % 6, by omega⟩ j) * w (ix2 j ⟨o.val, by omega⟩)
          + cb (ix2 0 ⟨o.val, by omega⟩) + lastE q * cd (ix2 0 o) := by
  unfold k0_pay3
  pointwise
  rw [acc_apply, mask_word ⟨a.val * 144 + t.val * 18 + q.val, by omega⟩]
  have h1 : (⟨(a.val * 144 + t.val * 18 + q.val) / 144, by omega⟩ : Fin 32) = a := Fin.ext (by simp only []; omega)
  have h2 : (⟨(a.val * 144 + t.val * 18 + q.val) / 18 % 8, by omega⟩ : Fin 8) = t := Fin.ext (by simp only []; omega)
  have h3 : (⟨(a.val * 144 + t.val * 18 + q.val) / 6 % 3, by omega⟩ : Fin 3) = ⟨q.val / 6, by omega⟩ := Fin.ext (by simp only []; omega)
  have h4 : (⟨(a.val * 144 + t.val * 18 + q.val) % 6, by omega⟩ : Fin 6) = ⟨q.val % 6, by omega⟩ := Fin.ext (by simp only []; omega)
  rw [h1, h2, h3, h4]
  congr 2
  have h5 : (a.val * 144 + t.val * 18 + q.val) % 18 = q.val := by omega
  simp only [h5, lastE]
  by_cases hq : 12 ≤ q.val
  · rw [if_pos hq, if_pos hq]
    show (((1#32 : BitVec 32).toInt : ℝ) : EReal) = 1
    norm_num
  · rw [if_neg hq, if_neg hq]
    show (((0#32 : BitVec 32).toInt : ℝ) : EReal) = 0
    norm_num

/-- The second output's block. -/
theorem out5_apply (x : Vec Ideal S32x8x3x6x36 .f32) (w : Vec Ideal S36x640 .f32) (cb : Vec Ideal S1x640 .f32)
    (r : Fin 18432) (o : Fin 128) :
    k0_pay1 (F := Ideal) (k0_pay2 x w cb) (ix2 r o)
      = ∑ j : Fin 36, x (ix5 ⟨r.val / 576, by omega⟩ ⟨r.val / 72 % 8, by omega⟩ ⟨r.val / 24 % 3, by omega⟩ ⟨r.val / 4 % 6, by omega⟩ j)
          * w (ix2 j ⟨128 + (r.val % 4 * 128 + o.val), by omega⟩) + cb (ix2 0 ⟨128 + (r.val % 4 * 128 + o.val), by omega⟩) := by
  unfold k0_pay1
  pointwise
  rw [acc_apply]
  have h1 : (⟨r.val / 4 / 144, by omega⟩ : Fin 32) = ⟨r.val / 576, by omega⟩ := Fin.ext (by simp only []; omega)
  have h2 : (⟨r.val / 4 / 18 % 8, by omega⟩ : Fin 8) = ⟨r.val / 72 % 8, by omega⟩ := Fin.ext (by simp only []; omega)
  have h3 : (⟨r.val / 4 / 6 % 3, by omega⟩ : Fin 3) = ⟨r.val / 24 % 3, by omega⟩ := Fin.ext (by simp only []; omega)
  rw [h1, h2, h3]

end Cert.Emb.Block

end
-- ==== Proof.Emb.Equation.lean ====
module

public import proofs.«01_k».proof.Proof.Emb.Probe
public import proofs.«01_k».proof.Proof.Emb.Comb
public import proofs.«01_k».proof.Proof.Emb.Block

/-!
# The equation

A row of bits times the combined weights, plus the base row, is the row's embedding: the embedding is affine on bits, and the
weights hold what it is on the all-zero row and what each single bit changes.
-/

@[expose] public section

set_option maxRecDepth 16384

noncomputable section

namespace Cert.Emb.Equation

open Cert.KernelIdeal Cert.KernelIdeal.Gen Cert.Emb.Entry Cert.Emb.Probe Cert.Emb.Comb Cert.Emb.Block Idealize.ShloMosaic

/-- The first probe is the zero row. -/
theorem probe_zero : probe 0 = zeroRow := by
  funext j
  simp [probe, zeroRow]

/-- The others are the unit rows. -/
theorem probe_succ (j : Fin 36) : probe j.succ = unitRow j := by
  funext i
  simp only [probe, unitRow, Fin.val_succ, Nat.add_right_cancel_iff, Fin.ext_iff, decide_eq_decide]
  exact eq_comm

/-- The side's factor, as a real number. -/
theorem lastE_coe (q : Fin 18) : lastE q = ((bitR (decide (q.val / 6 = 2)) : ℝ) : EReal) := by
  unfold lastE
  by_cases h : 12 ≤ q.val
  · have e : q.val / 6 = 2 := by omega
    simp [h, e, bitR]
  · have e : ¬ q.val / 6 = 2 := by omega
    simp [h, e, bitR]

variable {W : Weights} {A1 : FVec Ideal S1318x128 .f32} {A2 : FVec Ideal S128x128 .f32}
    {A3 : FVec Ideal S128 .f32} {A4 : FVec Ideal S314x64 .f32} {A5 : FVec Ideal S64x128 .f32}
    {A6 : FVec Ideal S128 .f32} {A7 : FVec Ideal S528x64 .f32} {A8 : FVec Ideal S81x128 .f32}
    {A9 : FVec Ideal S128 .f32} {A10 : FVec Ideal S919x128 .f32} {A11 : FVec Ideal S134x128 .f32}
    {A12 : FVec Ideal S128 .f32} {A15 : FVec Ideal S250x128 .f32} {A16 : FVec Ideal S128 .f32}
    (H : Holds W A1 A2 A3 A4 A5 A6 A7 A8 A9 A10 A11 A12 A15 A16)
    (X : Fin 36 → EReal) (b : Row) (hX : ∀ j, X j = ((bitR (b j) : ℝ) : EReal))

include H hX

/-- A move's columns: the row's bits times the combined weights, plus the base row. -/
theorem move_value (P : FVec Ideal S37x1x3x1x128 .f32) (q : Fin 4) (o : Fin 128) :
    ∑ j : Fin 36, X j * wComb P (mvP A10 A11 A12) (ix2 j ⟨128 + (q.val * 128 + o.val), by omega⟩)
        + cBase P (mvP A10 A11 A12) (ix2 0 ⟨128 + (q.val * 128 + o.val), by omega⟩)
      = ((W.mov b q o : ℝ) : EReal) := by
  simp only [hX, wComb_move, cBase_move, mvP_apply H, probe_zero, probe_succ, ← EReal.coe_sub]
  have e := W.mov_aff q o b
  dsimp only at e
  rw [coe_sum_mul (fun j => bitR (b j)) fun j => W.mov (unitRow j) q o - W.mov zeroRow q o, ← EReal.coe_add, e, add_comm]

/-- The embedding's columns: the row's bits times the combined weights, plus the base row, plus the last side's row there. -/
theorem name_value (q : Fin 18) (o : Fin 128) :
    ∑ j : Fin 36, X j * wComb (pkP (nameP A1 A2 A3) (abilityP A4 A5 A6) (itemP A7 A8 A9) (mvP A10 A11 A12) (ohP A15 A16))
          (mvP A10 A11 A12) (ix2 j ⟨o.val, by omega⟩)
        + cBase (pkP (nameP A1 A2 A3) (abilityP A4 A5 A6) (itemP A7 A8 A9) (mvP A10 A11 A12) (ohP A15 A16))
          (mvP A10 A11 A12) (ix2 0 ⟨o.val, by omega⟩)
        + lastE q * cDelta (pkP (nameP A1 A2 A3) (abilityP A4 A5 A6) (itemP A7 A8 A9) (mvP A10 A11 A12) (ohP A15 A16)) (ix2 0 o)
      = ((W.pok b (decide (q.val / 6 = 2)) o : ℝ) : EReal) := by
  have hf : ∀ r : Fin 37, pkP (nameP A1 A2 A3) (abilityP A4 A5 A6) (itemP A7 A8 A9) (mvP A10 A11 A12) (ohP A15 A16) (ix5 r 0 0 0 o)
      = ((W.pok (probe r) false o : ℝ) : EReal) := fun r => pkP_apply H r 0 o false (ohP_first H r o)
  have hl : pkP (nameP A1 A2 A3) (abilityP A4 A5 A6) (itemP A7 A8 A9) (mvP A10 A11 A12) (ohP A15 A16) (ix5 0 0 2 0 o)
      = ((W.pok (probe 0) true o : ℝ) : EReal) := pkP_apply H 0 2 o true (ohP_last H o)
  simp only [hX, wComb_name, cBase_name, cDelta_apply, hf, hl, probe_zero, probe_succ, lastE_coe, ← EReal.coe_sub]
  rw [coe_sum_mul (fun j => bitR (b j)) fun j => W.pok (unitRow j) false o - W.pok zeroRow false o, ← EReal.coe_add,
    ← EReal.coe_mul, ← EReal.coe_add]
  refine congrArg _ ?_
  have e := W.pok_aff false o b
  dsimp only at e
  by_cases h : q.val / 6 = 2
  · rw [decide_eq_true h, W.pok_last b o, e]
    simp only [bitR, if_true]
    ring
  · rw [decide_eq_false h, e]
    simp only [bitR, Bool.false_eq_true, if_false]
    ring

end Cert.Emb.Equation
end
-- ==== Proof.Emb.Arrays.lean ====
module

public import proofs.«01_k».proof.Proof.Emb.Block
public import proofs.«01_k».proof.Proof.Gen.KernelIdeal.Frame

/-!
# The two arrays the kernel writes

Each grid point's block is a block of one function of the input and of the three weight arrays (`G4`, `G5`); the blocks
cover the arrays.
-/

@[expose] public section

set_option maxRecDepth 16384

noncomputable section

namespace Cert.Emb.Arrays

open Cert.KernelIdeal Cert.KernelIdeal.Gen Cert.Emb.Block Idealize.ShloMosaic Idealize.ShloMosaic.TcCoe Idealize.SL.Sem

/-- The embedding's array: sample, place, time, column. -/
def G4 (x : Vec Ideal S1024x8x3x6x36 .f32) (w : Vec Ideal S36x640 .f32) (cb : Vec Ideal S1x640 .f32) (cd : Vec Ideal S1x128 .f32) :
    Vec Ideal S1024x18x8x128 .f32 := fun i =>
  let n : Fin 1024 := i 0
  let q : Fin 18 := i 1
  let t : Fin 8 := i 2
  let o : Fin 128 := i 3
  ∑ j : Fin 36, x (ix5 n t ⟨q.val / 6, by omega⟩ ⟨q.val % 6, by omega⟩ j) * w (ix2 j ⟨o.val, by omega⟩)
    + cb (ix2 0 ⟨o.val, by omega⟩) + lastE q * cd (ix2 0 o)

/-- The moves' array: sample, time, side, place and move together, then the column. -/
def G5 (x : Vec Ideal S1024x8x3x6x36 .f32) (w : Vec Ideal S36x640 .f32) (cb : Vec Ideal S1x640 .f32) :
    Vec Ideal S589824x128 .f32 := fun i =>
  let r : Fin 589824 := i 0
  let o : Fin 128 := i 1
  ∑ j : Fin 36, x (ix5 ⟨r.val / 576, by omega⟩ ⟨r.val / 72 % 8, by omega⟩ ⟨r.val / 24 % 3, by omega⟩ ⟨r.val / 4 % 6, by omega⟩ j)
      * w (ix2 j ⟨128 + (r.val % 4 * 128 + o.val), by omega⟩) + cb (ix2 0 ⟨128 + (r.val % 4 * 128 + o.val), by omega⟩)

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The first output's block, of the input blocks. -/
theorem out4_eq (x0 : Vec Ideal S32x8x3x6x36 .f32) (x1 : Vec Ideal S36x640 .f32) (x2 : Vec Ideal S1x640 .f32) (x3 : Vec Ideal S1x128 .f32) :
    out0_4 x0 x1 x2 x3 = k0_pay3 x0 x1 x2 x3 := by
  unfold out0_4
  rw [View.canon_unit_zero hz4, View.ld_unit_zero hz5, View.ld_unit_zero hz2, View.ld_unit_zero hz2, View.ld_unit_zero hz2]

/-- The second output's block, of the input blocks. -/
theorem out5_eq (x0 : Vec Ideal S32x8x3x6x36 .f32) (x1 : Vec Ideal S36x640 .f32) (x2 : Vec Ideal S1x640 .f32) (x3 : Vec Ideal S1x128 .f32) :
    out0_5 x0 x1 x2 x3 = k0_pay1 (k0_pay2 x0 x1 x2) := by
  unfold out0_5
  rw [View.canon_unit_zero hz2, View.ld_unit_zero hz5, View.ld_unit_zero hz2, View.ld_unit_zero hz2]

variable (m : (ℓ : Loc nD τ sig) → Buf (Elt Ideal) ℓ)

/-- The block indices: the point's number on the first axis of the input and of both outputs, zero elsewhere. -/
theorem idx0 : ∀ t : Fin cfg0.N, win0_0.index t (0 : Fin 5) = t.val ∧ win0_0.index t (1 : Fin 5) = 0 ∧ win0_0.index t (2 : Fin 5) = 0
    ∧ win0_0.index t (3 : Fin 5) = 0 ∧ win0_0.index t (4 : Fin 5) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 4) = t.val ∧ win0_4.index t (1 : Fin 4) = 0 ∧ win0_4.index t (2 : Fin 4) = 0
    ∧ win0_4.index t (3 : Fin 4) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

/-- A grid point's number. -/
theorem t_lt (t : Fin cfg0.N) : t.val < 32 := lt_of_lt_of_eq t.isLt N_0

/-- A weight window's block is its whole array. -/
theorem emb1 (t : Fin cfg0.N) (j : S36x640.Idx) : ((cfg0.win 1).blk t).view.emb j = j := by
  obtain ⟨e0, e1⟩ := idx1 t
  funext a
  apply Fin.ext
  match a with
  | ⟨0, _⟩ => show win0_1.index t (0 : Fin 2) * 36 + 1 * (j 0).val = (j 0).val; omega
  | ⟨1, _⟩ => show win0_1.index t (1 : Fin 2) * 640 + 1 * (j 1).val = (j 1).val; omega
theorem emb2 (t : Fin cfg0.N) (j : S1x640.Idx) : ((cfg0.win 2).blk t).view.emb j = j := by
  obtain ⟨e0, e1⟩ := idx2 t
  funext a
  apply Fin.ext
  match a with
  | ⟨0, _⟩ => show win0_2.index t (0 : Fin 2) * 1 + 1 * (j 0).val = (j 0).val; omega
  | ⟨1, _⟩ => show win0_2.index t (1 : Fin 2) * 640 + 1 * (j 1).val = (j 1).val; omega
theorem emb3 (t : Fin cfg0.N) (j : S1x128.Idx) : ((cfg0.win 3).blk t).view.emb j = j := by
  obtain ⟨e0, e1⟩ := idx3 t
  funext a
  apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- The input's block at point `t` starts at sample `32 t`. -/
theorem emb0 (t : Fin cfg0.N) (a : Fin 32) (e : Fin 8) (s : Fin 3) (p : Fin 6) (j : Fin 36) :
    ((cfg0.win 0).blk t).view.emb (ix5 a e s p j : S32x8x3x6x36.Idx)
      = (ix5 ⟨32 * t.val + a.val, by have := t_lt t; omega⟩ e s p j : S1024x8x3x6x36.Idx) := by
  obtain ⟨e0, e1, e2, e3, e4⟩ := idx0 t
  funext k
  apply Fin.ext
  match k with
  | ⟨0, _⟩ => show win0_0.index t (0 : Fin 5) * 32 + 1 * a.val = 32 * t.val + a.val; omega
  | ⟨1, _⟩ => show win0_0.index t (1 : Fin 5) * 8 + 1 * e.val = e.val; omega
  | ⟨2, _⟩ => show win0_0.index t (2 : Fin 5) * 3 + 1 * s.val = s.val; omega
  | ⟨3, _⟩ => show win0_0.index t (3 : Fin 5) * 6 + 1 * p.val = p.val; omega
  | ⟨4, _⟩ => show win0_0.index t (4 : Fin 5) * 36 + 1 * j.val = j.val; omega

/-- The embedding's block at point `t` starts at sample `32 t`. -/
theorem emb4 (t : Fin cfg0.N) (a : Fin 32) (q : Fin 18) (e : Fin 8) (o : Fin 128) :
    ((cfg0.win 4).blk t).view.emb (ix4 a q e o : S32x18x8x128.Idx)
      = (ix4 ⟨32 * t.val + a.val, by have := t_lt t; omega⟩ q e o : S1024x18x8x128.Idx) := by
  obtain ⟨e0, e1, e2, e3⟩ := idx4 t
  funext k
  apply Fin.ext
  match k with
  | ⟨0, _⟩ => show win0_4.index t (0 : Fin 4) * 32 + 1 * a.val = 32 * t.val + a.val; omega
  | ⟨1, _⟩ => show win0_4.index t (1 : Fin 4) * 18 + 1 * q.val = q.val; omega
  | ⟨2, _⟩ => show win0_4.index t (2 : Fin 4) * 8 + 1 * e.val = e.val; omega
  | ⟨3, _⟩ => show win0_4.index t (3 : Fin 4) * 128 + 1 * o.val = o.val; omega

/-- The moves' block at point `t` starts at row `18432 t`. -/
theorem emb5 (t : Fin cfg0.N) (r : Fin 18432) (o : Fin 128) :
    ((cfg0.win 5).blk t).view.emb (ix2 r o : S18432x128.Idx)
      = (ix2 ⟨18432 * t.val + r.val, by have := t_lt t; omega⟩ o : S589824x128.Idx) := by
  obtain ⟨e0, e1⟩ := idx5 t
  funext k
  apply Fin.ext
  match k with
  | ⟨0, _⟩ => show win0_5.index t (0 : Fin 2) * 18432 + 1 * r.val = 18432 * t.val + r.val; omega
  | ⟨1, _⟩ => show win0_5.index t (1 : Fin 2) * 128 + 1 * o.val = o.val; omega

/-- The weight windows' blocks. -/
theorem iblk1_eq (c : Dev nD) (t : Fin cfg0.N) : iblk m c 1 t = V m c main_v72 := by
  funext j
  show V m c main_v72 (((cfg0.win 1).blk t).view.emb j) = V m c main_v72 j
  rw [emb1]
theorem iblk2_eq (c : Dev nD) (t : Fin cfg0.N) : iblk m c 2 t = V m c main_v76 := by
  funext j
  show V m c main_v76 (((cfg0.win 2).blk t).view.emb j) = V m c main_v76 j
  rw [emb2]
theorem iblk3_eq (c : Dev nD) (t : Fin cfg0.N) : iblk m c 3 t = V m c main_v82 := by
  funext j
  show V m c main_v82 (((cfg0.win 3).blk t).view.emb j) = V m c main_v82 j
  rw [emb3]

/-- The input window's block. -/
theorem iblk0_apply (c : Dev nD) (t : Fin cfg0.N) (a : Fin 32) (e : Fin 8) (s : Fin 3) (p : Fin 6) (j : Fin 36) :
    (iblk m c 0 t : Vec Ideal S32x8x3x6x36 .f32) (ix5 a e s p j)
      = (V m c main_arg0 : Vec Ideal S1024x8x3x6x36 .f32) (ix5 ⟨32 * t.val + a.val, by have := t_lt t; omega⟩ e s p j) := by
  show V m c main_arg0 (((cfg0.win 0).blk t).view.emb (ix5 a e s p j : S32x8x3x6x36.Idx)) = _
  rw [emb0]

/-- What a point writes back of the embedding is its block of `G4`. -/
theorem flushed4 (c : Dev nD) (t : Fin cfg0.N) :
    (dats m 0 c).flushed 4 t = ((cfg0.win 4).blk t).view.read (Elt Ideal)
      (G4 (V m c main_arg0) (V m c main_v72) (V m c main_v76) (V m c main_v82)) := by
  show (cfg0.win 4).cut (grid0.coords t) ((dats m 0 c).after 4 t) = _
  rw [after0_4, out4_eq, iblk1_eq, iblk2_eq, iblk3_eq]
  funext j
  obtain ⟨a, q, e, o, rfl⟩ : ∃ a q e o, j = (ix4 a q e o : S32x18x8x128.Idx) := ⟨j 0, j 1, j 2, j 3, eq_ix4 j⟩
  show k0_pay3 (iblk m c 0 t) (V m c main_v72) (V m c main_v76) (V m c main_v82) (ix4 a q e o)
    = G4 (V m c main_arg0) (V m c main_v72) (V m c main_v76) (V m c main_v82) (((cfg0.win 4).blk t).view.emb (ix4 a q e o : S32x18x8x128.Idx))
  rw [emb4, out4_apply]
  simp only [iblk0_apply]
  rfl

/-- What a point writes back of the moves is its block of `G5`. -/
theorem flushed5 (c : Dev nD) (t : Fin cfg0.N) :
    (dats m 0 c).flushed 5 t = ((cfg0.win 5).blk t).view.read (Elt Ideal)
      (G5 (V m c main_arg0) (V m c main_v72) (V m c main_v76)) := by
  show (cfg0.win 5).cut (grid0.coords t) ((dats m 0 c).after 5 t) = _
  rw [after0_5, out5_eq, iblk1_eq, iblk2_eq]
  funext j
  obtain ⟨r, o, rfl⟩ : ∃ r o, j = (ix2 r o : S18432x128.Idx) := ⟨j 0, j 1, eq_ix2 j⟩
  show k0_pay1 (k0_pay2 (iblk m c 0 t) (V m c main_v72) (V m c main_v76)) (ix2 r o)
    = G5 (V m c main_arg0) (V m c main_v72) (V m c main_v76) (((cfg0.win 5).blk t).view.emb (ix2 r o : S18432x128.Idx))
  rw [emb5, out5_apply]
  simp only [iblk0_apply]
  have ht := t_lt t
  have h0 : 32 * t.val + r.val / 576 = (18432 * t.val + r.val) / 576 := by omega
  have h1 : r.val / 72 % 8 = (18432 * t.val + r.val) / 72 % 8 := by omega
  have h2 : r.val / 24 % 3 = (18432 * t.val + r.val) / 24 % 3 := by omega
  have h3 : r.val / 4 % 6 = (18432 * t.val + r.val) / 4 % 6 := by omega
  have h4 : r.val % 4 = (18432 * t.val + r.val) % 4 := by omega
  unfold G5
  simp only [h0, h1, h2, h3, h4]
  rfl

/-- Every entry of the embedding's array is in a point's block. -/
theorem cover4 (i : S1024x18x8x128.Idx) : ∃ t : Fin cfg0.N, (cfg0.win 4).flush t = true ∧ i ∈ ((cfg0.win 4).blk t).view.set := by
  obtain ⟨n, q, e, o, rfl⟩ : ∃ n q e o, i = (ix4 n q e o : S1024x18x8x128.Idx) := ⟨i 0, i 1, i 2, i 3, eq_ix4 i⟩
  refine ⟨⟨n.val / 32, lt_of_lt_of_eq (by omega) N_0.symm⟩, flush0_4 _, ?_⟩
  have h := ((cfg0.win 4).blk ⟨n.val / 32, lt_of_lt_of_eq (by omega) N_0.symm⟩).view.emb_mem_set
    (ix4 ⟨n.val % 32, by omega⟩ q e o : S32x18x8x128.Idx)
  rw [emb4] at h
  have en : (⟨32 * (n.val / 32) + n.val % 32, by omega⟩ : Fin 1024) = n := Fin.ext (Nat.div_add_mod _ _)
  rwa [en] at h

/-- Every entry of the moves' array is in a point's block. -/
theorem cover5 (i : S589824x128.Idx) : ∃ t : Fin cfg0.N, (cfg0.win 5).flush t = true ∧ i ∈ ((cfg0.win 5).blk t).view.set := by
  obtain ⟨r, o, rfl⟩ : ∃ r o, i = (ix2 r o : S589824x128.Idx) := ⟨i 0, i 1, eq_ix2 i⟩
  refine ⟨⟨r.val / 18432, lt_of_lt_of_eq (by omega) N_0.symm⟩, flush0_5 _, ?_⟩
  have h := ((cfg0.win 5).blk ⟨r.val / 18432, lt_of_lt_of_eq (by omega) N_0.symm⟩).view.emb_mem_set
    (ix2 ⟨r.val % 18432, by omega⟩ o : S18432x128.Idx)
  rw [emb5] at h
  have en : (⟨18432 * (r.val / 18432) + r.val % 18432, by omega⟩ : Fin 589824) = r := Fin.ext (Nat.div_add_mod _ _)
  rwa [en] at h

/-- The embedding's array after the run. -/
theorem final4 (c : Dev nD) : (dats m 0 c).arrAt 4 cfg0.N
    = G4 (V m c main_arg0) (V m c main_v72) (V m c main_v76) (V m c main_v82) :=
  (dats m 0 c).arrAt_eq_of_cover 4 _ (fun t _ => flushed4 m c t) cover4

/-- The moves' array after the run. -/
theorem final5 (c : Dev nD) : (dats m 0 c).arrAt 5 cfg0.N = G5 (V m c main_arg0) (V m c main_v72) (V m c main_v76) :=
  (dats m 0 c).arrAt_eq_of_cover 5 _ (fun t _ => flushed5 m c t) cover5

end Cert.Emb.Arrays
end
-- ==== Proof.Emb.Word.lean ====
module

public import proofs.«01_k».proof.Proof.Emb.Holds
public import Idealize.ShloMosaic.Lib.Pointwise

/-!
# Bits as words

The integer read off a bit, and off a bit plus one.
-/

@[expose] public section

set_option maxRecDepth 16384

noncomputable section

namespace Cert.Emb

open Idealize.ShloMosaic

/-- The integer of a small natural number. -/
theorem fptosi_nat (k : ℕ) (h : k < 3) : Ideal.fptosi 32 (((k : ℝ) : ℝ) : EReal) = BitVec.ofNat 32 k := by
  have e : Ideal.toIntClamped (-(2 ^ (32 - 1) : Nat)) ((2 ^ (32 - 1) : Nat) - 1) (((k : ℝ) : ℝ) : EReal) = (k : ℤ) := by
    show max _ (min _ (if (0 : ℝ) ≤ (k : ℝ) then ⌊(k : ℝ)⌋ else ⌈(k : ℝ)⌉)) = (k : ℤ)
    rw [if_pos (Nat.cast_nonneg k), Int.floor_natCast, min_eq_right (by norm_num; omega), max_eq_right (by norm_num)]
  rw [Ideal.fptosi, e, BitVec.ofInt_natCast]

/-- A bit's integer. -/
theorem fptosi_bit (v : Bool) : Ideal.fptosi 32 (((bitR v : ℝ) : ℝ) : EReal) = BitVec.ofNat 32 v.toNat := by
  rw [← fptosi_nat v.toNat (by cases v <;> decide)]
  congr 2
  cases v <;> simp [bitR]

/-- The integer of a bit plus one. -/
theorem fptosi_bit_succ (v : Bool) :
    Ideal.fptosi 32 ((((bitR v : ℝ) : ℝ) : EReal) + 1) = BitVec.ofNat 32 (rowNat v) := by
  have e : (((bitR v : ℝ) : ℝ) : EReal) + 1 = (((rowNat v : ℕ) : ℝ) : EReal) := by
    rw [← EReal.coe_one, ← EReal.coe_add]
    congr 1
    cases v <;> norm_num [bitR, rowNat]
  rw [e, fptosi_nat _ (by cases v <;> decide)]

/-- The row of a table that a bit selects, among `N` rows. -/
def bitRow (N : ℕ) (h : 2 < N) (v : Bool) : Fin N := ⟨rowNat v, by unfold rowNat; split <;> omega⟩

/-- A bit's pattern. -/
def bitPattern (v : Bool) : BitVec 32 := if v then 0x3F800000#32 else 0#32

/-- It is the bit's. -/
theorem ofBits_pattern (v : Bool) : Ideal.ofBits .f32 (bitPattern v) = ((bitR v : ℝ) : EReal) := ofBits_bit v

end Cert.Emb
end
-- ==== Proof.Emb.Tail.lean ====
module

public import proofs.«01_k».proof.Proof.Emb.Arrays
public import proofs.«01_k».proof.Proof.Emb.Word
public import Idealize.ShloMosaic.Lib.StableHlo.RunRead
public import Idealize.ShloMosaic.Lib.Pointwise

/-!
# The kernel's three results

The embedding with the time before the place, the moves with their rows taken apart, and the mask.
-/

@[expose] public section

set_option maxRecDepth 16384

noncomputable section

namespace Cert.Emb.Tail

open Cert.KernelIdeal Cert.KernelIdeal.Gen Cert.Emb.Arrays Cert.Emb.Block Idealize.ShloMosaic Idealize.ShloMosaic.TcCoe Idealize.SL.Sem

/-- The embedding's result, of the array the kernel writes. -/
def pokOut (x : FVec Ideal S1024x18x8x128 .f32) : FVec Ideal S1024x8x18x128 .f32 :=
  transpose S1024x8x18x128 [0, 2, 1, 3] x transposes_S1024x18x8x128_S1024x8x18x128_0_2_1_3

/-- The moves' result, of the array the kernel writes. -/
def moveOut (x : FVec Ideal S589824x128 .f32) : FVec Ideal S1024x8x3x6x4x128 .f32 :=
  shapeCast S1024x8x3x6x4x128 x shapeCasts_S589824x128_S1024x8x3x6x4x128

/-- The mask's result, of the input. -/
def maskOut (x : FVec Ideal S1024x8x3x6x36 .f32) : IVec S1024x8x18 1 :=
  transpose S1024x8x18 [2, 1, 0] (shapeCast S18x8x1024 (cmpi .ne (fptosi 32 (addf
      (shapeCast S3x6x8x1024 (extractStridedSlice S3x6x1x8x1024 ![0, 0, 0, 0, 0]
        (transpose S3x6x36x8x1024 [2, 3, 4, 1, 0] x transposes_S1024x8x3x6x36_S3x6x36x8x1024_2_3_4_1_0)
        slices_S3x6x36x8x1024_S3x6x1x8x1024_0_0_0_0_0) shapeCasts_S3x6x1x8x1024_S3x6x8x1024)
      (broadcastInDim S3x6x8x1024 ![] bcast_S_S3x6x8x1024 (constant S_ .f32 0x3F800000#32))))
    (broadcastInDim S3x6x8x1024 ![] bcast_S_S3x6x8x1024 (constantI S_ 32 0#32))) shapeCasts_S3x6x8x1024_S18x8x1024)
    transposes_S18x8x1024_S1024x8x18_2_1_0

/-- An entry of the embedding's result. -/
theorem pokOut_apply (x w cb cd) (n : Fin 1024) (t : Fin 8) (q : Fin 18) (o : Fin 128) :
    pokOut (G4 x w cb cd) (ix4 n t q o)
      = ∑ j : Fin 36, x (ix5 n t ⟨q.val / 6, by omega⟩ ⟨q.val % 6, by omega⟩ j) * w (ix2 j ⟨o.val, by omega⟩)
          + cb (ix2 0 ⟨o.val, by omega⟩) + lastE q * cd (ix2 0 o) := by
  have e : ∀ X, pokOut X (ix4 n t q o) = X (ix4 n q t o) := fun X => by
    unfold pokOut
    pointwise
  rw [e]
  rfl

/-- An entry of the moves' result. -/
theorem moveOut_apply (x w cb) (n : Fin 1024) (t : Fin 8) (s : Fin 3) (p : Fin 6) (q : Fin 4) (o : Fin 128) :
    moveOut (G5 x w cb) (ix6 n t s p q o)
      = ∑ j : Fin 36, x (ix5 n t s p j) * w (ix2 j ⟨128 + (q.val * 128 + o.val), by omega⟩)
          + cb (ix2 0 ⟨128 + (q.val * 128 + o.val), by omega⟩) := by
  have e : ∀ X, moveOut X (ix6 n t s p q o)
      = X (ix2 ⟨n.val * 576 + t.val * 72 + s.val * 24 + p.val * 4 + q.val, by omega⟩ o) := fun X => by
    unfold moveOut
    pointwise
  rw [e]
  have h0 : (⟨(n.val * 576 + t.val * 72 + s.val * 24 + p.val * 4 + q.val) / 576, by omega⟩ : Fin 1024) = n := Fin.ext (by dsimp only; omega)
  have h1 : (⟨(n.val * 576 + t.val * 72 + s.val * 24 + p.val * 4 + q.val) / 72 % 8, by omega⟩ : Fin 8) = t := Fin.ext (by dsimp only; omega)
  have h2 : (⟨(n.val * 576 + t.val * 72 + s.val * 24 + p.val * 4 + q.val) / 24 % 3, by omega⟩ : Fin 3) = s := Fin.ext (by dsimp only; omega)
  have h3 : (⟨(n.val * 576 + t.val * 72 + s.val * 24 + p.val * 4 + q.val) / 4 % 6, by omega⟩ : Fin 6) = p := Fin.ext (by dsimp only; omega)
  have h4 : (n.val * 576 + t.val * 72 + s.val * 24 + p.val * 4 + q.val) % 4 = q.val := by omega
  show ∑ j : Fin 36, x (ix5 ⟨(n.val * 576 + t.val * 72 + s.val * 24 + p.val * 4 + q.val) / 576, _⟩
      ⟨(n.val * 576 + t.val * 72 + s.val * 24 + p.val * 4 + q.val) / 72 % 8, _⟩
      ⟨(n.val * 576 + t.val * 72 + s.val * 24 + p.val * 4 + q.val) / 24 % 3, _⟩
      ⟨(n.val * 576 + t.val * 72 + s.val * 24 + p.val * 4 + q.val) / 4 % 6, _⟩ j)
      * w (ix2 j ⟨128 + ((n.val * 576 + t.val * 72 + s.val * 24 + p.val * 4 + q.val) % 4 * 128 + o.val), _⟩)
    + cb (ix2 0 ⟨128 + ((n.val * 576 + t.val * 72 + s.val * 24 + p.val * 4 + q.val) % 4 * 128 + o.val), _⟩) = _
  rw [h0, h1, h2, h3]
  simp only [h4]

/-- A row number is not zero. -/
theorem known_bit (v : Bool) : IntOp.cmpi .ne (BitVec.ofNat 32 (rowNat v)) 0#32 = 1#1 := by
  cases v <;> decide

/-- The mask: every row of bits is known. -/
theorem maskOut_apply (x : FVec Ideal S1024x8x3x6x36 .f32) (b : Fin 1024 → Fin 8 → Fin 3 → Fin 6 → Row)
    (hx : ∀ n t s p j, x (ix5 n t s p j) = ((bitR (b n t s p j) : ℝ) : EReal)) (n : Fin 1024) (t : Fin 8) (q : Fin 18) :
    maskOut x (ix3 n t q) = 1#1 := by
  unfold maskOut
  pointwise
  simp only [hx]
  exact (congrArg (fun w => IntOp.cmpi .ne w 0#32) (fptosi_bit_succ _)).trans (known_bit _)

/-- The last lines' embedding, of whatever the kernel left. -/
theorem lines_pok (U : Valuation τ sig (Elt Ideal)) :
    StableHlo.after hostOps1 U (Proc.devRef .tc main_v84) = pokOut (U (Proc.devRef .tc main_v83_0)) := by
  after_reads_simp
  rfl

/-- Their moves. -/
theorem lines_moves (U : Valuation τ sig (Elt Ideal)) :
    StableHlo.after hostOps1 U (Proc.devRef .tc main_v85) = moveOut (U (Proc.devRef .tc main_v83_1)) := by
  after_reads_simp
  rfl

/-- Their mask. -/
theorem lines_mask (U : Valuation τ sig (Elt Ideal)) :
    StableHlo.after hostOps1 U (Proc.devRef .tc main_v95) = maskOut (U (Proc.devRef .tc main_arg0)) := by
  after_reads_simp
  rfl

variable (m : (ℓ : Loc nD τ sig) → Buf (Elt Ideal) ℓ)

/-- The embedding's result after the last lines. -/
theorem tail_pok (c : Dev nD) : Pipeline.afterTail₀ cfgs (dats m) 0 (V0 m) [hostOps1] c main_v84
    = pokOut (G4 (V m c main_arg0) (V m c main_v72) (V m c main_v76) (V m c main_v82)) := by
  unfold Pipeline.afterTail₀
  rw [List.flatten_singleton]
  exact (lines_pok _).trans (congrArg pokOut
    ((Pipeline.withArrays_arr spec0 winFacts0.arr_inj c (V0 m c) (fun w => (dats m 0 c).arrAt w cfg0.N) 4).trans (final4 m c)))

/-- The moves' result after them. -/
theorem tail_moves (c : Dev nD) : Pipeline.afterTail₀ cfgs (dats m) 0 (V0 m) [hostOps1] c main_v85
    = moveOut (G5 (V m c main_arg0) (V m c main_v72) (V m c main_v76)) := by
  unfold Pipeline.afterTail₀
  rw [List.flatten_singleton]
  exact (lines_moves _).trans (congrArg moveOut
    ((Pipeline.withArrays_arr spec0 winFacts0.arr_inj c (V0 m c) (fun w => (dats m 0 c).arrAt w cfg0.N) 5).trans (final5 m c)))

/-- The mask after them. -/
theorem tail_mask (c : Dev nD) : Pipeline.afterTail₀ cfgs (dats m) 0 (V0 m) [hostOps1] c main_v95
    = maskOut (V m c main_arg0) := by
  unfold Pipeline.afterTail₀
  rw [List.flatten_singleton]
  exact (lines_mask _).trans (congrArg maskOut
    ((Pipeline.withArrays_arr spec0 winFacts0.arr_inj c (V0 m c) (fun w => (dats m 0 c).arrAt w cfg0.N) 0).trans
      (((dats m 0 c).arrAt_in 0 rfl _).trans (A_eq m c 0))))

end Cert.Emb.Tail
end
-- ==== Proof.Emb.RefCat.lean ====
module

public import proofs.«01_k».proof.Proof.Gen.ReferenceIdeal
public import Idealize.ShloMosaic.Lib.Pointwise

/-!
# The reference's one-hot columns side by side

Three nested concatenations of the reference, read at a column.
-/

@[expose] public section

set_option maxRecDepth 16384

noncomputable section

namespace Cert.Emb.Ref

open Cert.ReferenceIdeal Cert.ReferenceIdeal.Gen Idealize.ShloMosaic

/-- Status, sleep, toxic. -/
def cat3 (a : FVec Ideal S1024x8x3x6x7 .f32) (b c : FVec Ideal S1024x8x3x6x3 .f32) : FVec Ideal S1024x8x3x6x13 .f32 :=
  concatenate S1024x8x3x6x13 4 [⟨S1024x8x3x6x7, a⟩, ⟨S1024x8x3x6x3, b⟩, ⟨S1024x8x3x6x3, c⟩]
    concatenates_S1024x8x3x6x7_S1024x8x3x6x3_S1024x8x3x6x3_S1024x8x3x6x13_d4

/-- Hit points, greatest hit points, their ratio, the stats. -/
def cat4 (a b : FVec Ideal S1024x8x3x6x27 .f32) (c : FVec Ideal S1024x8x3x6x1 .f32) (d : FVec Ideal S1024x8x3x6x35 .f32) :
    FVec Ideal S1024x8x3x6x90 .f32 :=
  concatenate S1024x8x3x6x90 4 [⟨S1024x8x3x6x27, a⟩, ⟨S1024x8x3x6x27, b⟩, ⟨S1024x8x3x6x1, c⟩, ⟨S1024x8x3x6x35, d⟩]
    concatenates_S1024x8x3x6x27_S1024x8x3x6x27_S1024x8x3x6x1_S1024x8x3x6x35_S1024x8x3x6x90_d4

/-- All the one-hot columns. -/
def cat11 (a : FVec Ideal S1024x8x3x6x15 .f32) (b : FVec Ideal S1024x8x3x6x90 .f32) (c d : FVec Ideal S1024x8x3x6x2 .f32)
    (e : FVec Ideal S1024x8x3x6x3 .f32) (f : FVec Ideal S1024x8x3x6x100 .f32) (g : FVec Ideal S1024x8x3x6x13 .f32)
    (h i : FVec Ideal S1024x8x3x6x2 .f32) (j : FVec Ideal S1024x8x3x6x19 .f32) (k : FVec Ideal S1024x8x3x6x2 .f32) :
    FVec Ideal S1024x8x3x6x250 .f32 :=
  concatenate S1024x8x3x6x250 4 [⟨S1024x8x3x6x15, a⟩, ⟨S1024x8x3x6x90, b⟩, ⟨S1024x8x3x6x2, c⟩, ⟨S1024x8x3x6x2, d⟩,
      ⟨S1024x8x3x6x3, e⟩, ⟨S1024x8x3x6x100, f⟩, ⟨S1024x8x3x6x13, g⟩, ⟨S1024x8x3x6x2, h⟩, ⟨S1024x8x3x6x2, i⟩,
      ⟨S1024x8x3x6x19, j⟩, ⟨S1024x8x3x6x2, k⟩]
    concatenates_S1024x8x3x6x15_S1024x8x3x6x90_S1024x8x3x6x2_S1024x8x3x6x2_S1024x8x3x6x3_S1024x8x3x6x100_S1024x8x3x6x13_S1024x8x3x6x2_S1024x8x3x6x2_S1024x8x3x6x19_S1024x8x3x6x2_S1024x8x3x6x250_d4

/-- A case distinction both of whose branches have the same value. -/
theorem dite_both {p : Prop} [Decidable p] {A : Type} {f : p → A} {g : ¬p → A} {v : A} (hf : ∀ h, f h = v) (hg : ∀ h, g h = v) :
    (if h : p then f h else g h) = v := by
  by_cases h : p
  · rw [dif_pos h]
    exact hf h
  · rw [dif_neg h]
    exact hg h

/-- A function's value at an equal number. -/
theorem at_eq {x : EReal} {G : ℕ → EReal} {i j : ℕ} (h : x = G i) (e : i = j) : x = G j := e ▸ h

section
variable (n : Fin 1024) (t : Fin 8) (s : Fin 3) (p : Fin 6) (G : ℕ → EReal)

/-- Three pieces whose columns are a function's values in turn. -/
theorem cat3_apply (a b c) (ha : ∀ o : Fin 7, a (ix5 n t s p o) = G o.val) (hb : ∀ o : Fin 3, b (ix5 n t s p o) = G (7 + o.val))
    (hc : ∀ o : Fin 3, c (ix5 n t s p o) = G (10 + o.val)) (o : Fin 13) : cat3 a b c (ix5 n t s p o) = G o.val := by
  unfold cat3
  pointwise
  refine dite_both (fun h => ?_) (fun h => ?_)
  · exact ha _
  refine dite_both (fun h => ?_) (fun h => ?_)
  · refine at_eq (hb _) ?_
    dsimp only
    omega
  refine at_eq (hc _) ?_
  dsimp only
  omega

/-- Four pieces whose columns are a function's values in turn. -/
theorem cat4_apply (a b c d) (ha : ∀ o : Fin 27, a (ix5 n t s p o) = G o.val) (hb : ∀ o : Fin 27, b (ix5 n t s p o) = G (27 + o.val))
    (hc : ∀ o : Fin 1, c (ix5 n t s p o) = G (54 + o.val)) (hd : ∀ o : Fin 35, d (ix5 n t s p o) = G (55 + o.val)) (o : Fin 90) :
    cat4 a b c d (ix5 n t s p o) = G o.val := by
  unfold cat4
  pointwise
  refine dite_both (fun h => ?_) (fun h => ?_)
  · exact ha _
  refine dite_both (fun h => ?_) (fun h => ?_)
  · refine at_eq (hb _) ?_
    dsimp only
    omega
  refine dite_both (fun h => ?_) (fun h => ?_)
  · refine at_eq (Eq.trans (congrArg c (congrArg (ix5 n t s p) (Subsingleton.elim _ _))) (hc 0)) (?_ : 54 + 0 = o.val)
    omega
  refine at_eq (hd _) ?_
  dsimp only
  omega

/-- Eleven pieces whose columns are a function's values in turn. -/
theorem cat11_apply (a b c d e f g h i j k) (ha : ∀ o : Fin 15, a (ix5 n t s p o) = G o.val) (hb : ∀ o : Fin 90, b (ix5 n t s p o) = G (15 + o.val))
    (hc : ∀ o : Fin 2, c (ix5 n t s p o) = G (105 + o.val)) (hd : ∀ o : Fin 2, d (ix5 n t s p o) = G (107 + o.val))
    (he : ∀ o : Fin 3, e (ix5 n t s p o) = G (109 + o.val)) (hf : ∀ o : Fin 100, f (ix5 n t s p o) = G (112 + o.val))
    (hg : ∀ o : Fin 13, g (ix5 n t s p o) = G (212 + o.val)) (hh : ∀ o : Fin 2, h (ix5 n t s p o) = G (225 + o.val))
    (hi : ∀ o : Fin 2, i (ix5 n t s p o) = G (227 + o.val)) (hj : ∀ o : Fin 19, j (ix5 n t s p o) = G (229 + o.val))
    (hk : ∀ o : Fin 2, k (ix5 n t s p o) = G (248 + o.val)) (o : Fin 250) :
    cat11 a b c d e f g h i j k (ix5 n t s p o) = G o.val := by
  unfold cat11
  pointwise
  refine dite_both (fun h => ?_) (fun h => ?_)
  · exact ha _
  refine dite_both (fun h => ?_) (fun h => ?_)
  · refine at_eq (hb _) ?_
    dsimp only
    omega
  refine dite_both (fun h => ?_) (fun h => ?_)
  · refine at_eq (hc _) ?_
    dsimp only
    omega
  refine dite_both (fun h => ?_) (fun h => ?_)
  · refine at_eq (hd _) ?_
    dsimp only
    omega
  refine dite_both (fun h => ?_) (fun h => ?_)
  · refine at_eq (he _) ?_
    dsimp only
    omega
  refine dite_both (fun h => ?_) (fun h => ?_)
  · refine at_eq (hf _) ?_
    dsimp only
    omega
  refine dite_both (fun h => ?_) (fun h => ?_)
  · refine at_eq (hg _) ?_
    dsimp only
    omega
  refine dite_both (fun h => ?_) (fun h => ?_)
  · refine at_eq (hh _) ?_
    dsimp only
    omega
  refine dite_both (fun h => ?_) (fun h => ?_)
  · refine at_eq (hi _) ?_
    dsimp only
    omega
  refine dite_both (fun h => ?_) (fun h => ?_)
  · refine at_eq (hj _) ?_
    dsimp only
    omega
  refine at_eq (hk _) ?_
  dsimp only
  omega
end

end Cert.Emb.Ref
end
-- ==== Proof.Emb.RefDense.lean ====
module

public import proofs.«01_k».proof.Proof.Gen.ReferenceIdeal
public import proofs.«01_k».proof.Proof.Emb.RefCat
public import proofs.«01_k».proof.Proof.Emb.Holds
public import proofs.«01_k».proof.Proof.Emb.Reduce

/-!
# The reference's affine layers

Each layer of the reference, read at an entry, where its operands are real numbers.
-/

@[expose] public section

set_option maxRecDepth 16384

noncomputable section

namespace Cert.Emb.Ref

open Cert.ReferenceIdeal Cert.ReferenceIdeal.Gen Idealize.ShloMosaic

/-- A bias of the embedding, repeated for every row. -/
def bias5 (B : FVec Ideal S128 .f32) : FVec Ideal S1024x8x3x6x128 .f32 :=
  broadcastInDim S1024x8x3x6x128 ![0, 1, 2, 3, 4] bcast_S1x1x1x1x128_S1024x8x3x6x128_0_1_2_3_4
    (broadcastInDim S1x1x1x1x128 ![4] bcast_S128_S1x1x1x1x128_4 B)

/-- The moves' bias, repeated for every move of every row. -/
def bias6 (B : FVec Ideal S128 .f32) : FVec Ideal S1024x8x3x6x4x128 .f32 :=
  broadcastInDim S1024x8x3x6x4x128 ![0, 1, 2, 3, 4, 5] bcast_S1x1x1x1x1x128_S1024x8x3x6x4x128_0_1_2_3_4_5
    (broadcastInDim S1x1x1x1x1x128 ![5] bcast_S128_S1x1x1x1x1x128_5 B)

/-- An item's row and its effect's, side by side. -/
def cat81 (a : FVec Ideal S1024x8x3x6x64 .f32) (b : FVec Ideal S1024x8x3x6x17 .f32) : FVec Ideal S1024x8x3x6x81 .f32 :=
  concatenate S1024x8x3x6x81 4 [⟨S1024x8x3x6x64, a⟩, ⟨S1024x8x3x6x17, b⟩]
    concatenates_S1024x8x3x6x64_S1024x8x3x6x17_S1024x8x3x6x81_d4

/-- A move's row and its power points', side by side. -/
def cat134 (a : FVec Ideal S1024x8x3x6x4x128 .f32) (b : FVec Ideal S1024x8x3x6x4x6 .f32) : FVec Ideal S1024x8x3x6x4x134 .f32 :=
  concatenate S1024x8x3x6x4x134 5 [⟨S1024x8x3x6x4x128, a⟩, ⟨S1024x8x3x6x4x6, b⟩]
    concatenates_S1024x8x3x6x4x128_S1024x8x3x6x4x6_S1024x8x3x6x4x134_d5

/-- A row of two parts times a matrix, the two parts' sums apart. -/
theorem sum_split (m l : ℕ) (g w : ℕ → ℝ) :
    ∑ k : Fin (m + l), g k * w k = ∑ k : Fin m, g k * w k + ∑ k : Fin l, g (m + k) * w (m + k) :=
  Fin.sum_univ_add _

section
variable (n : Fin 1024) (t : Fin 8) (s : Fin 3) (p : Fin 6) (q : Fin 4) (o : Fin 128) (x : ℕ → ℝ) (w : ℕ → ℕ → ℝ) (β : ℕ → ℝ)

/-- A layer on 128 columns. -/
theorem dense128 (X : FVec Ideal S1024x8x3x6x128 .f32) (A : FVec Ideal S128x128 .f32) (B : FVec Ideal S128 .f32)
    (hX : ∀ k : Fin 128, X (ix5 n t s p k) = ((x k : ℝ) : EReal)) (hA : ∀ k o, A (ix2 k o) = ((w k o : ℝ) : EReal))
    (hB : ∀ o, B (ix1 o) = ((β o : ℝ) : EReal)) :
    addf (Host.dotGeneral dot_S1024x8x3x6x128_S128x128_S1024x8x3x6x128_4_0_0123_1_n_n none X A) (bias5 B) (ix5 n t s p o)
      = ((∑ k : Fin 128, x k * w k o + β o : ℝ) : EReal) := by
  unfold bias5
  pointwise
  simp only [hX, hA, hB, coe_sum_mul, ← EReal.coe_add]

/-- A layer on 64 columns. -/
theorem dense64 (X : FVec Ideal S1024x8x3x6x64 .f32) (A : FVec Ideal S64x128 .f32) (B : FVec Ideal S128 .f32)
    (hX : ∀ k : Fin 64, X (ix5 n t s p k) = ((x k : ℝ) : EReal)) (hA : ∀ k o, A (ix2 k o) = ((w k o : ℝ) : EReal))
    (hB : ∀ o, B (ix1 o) = ((β o : ℝ) : EReal)) :
    addf (Host.dotGeneral dot_S1024x8x3x6x64_S64x128_S1024x8x3x6x128_4_0_0123_1_n_n none X A) (bias5 B) (ix5 n t s p o)
      = ((∑ k : Fin 64, x k * w k o + β o : ℝ) : EReal) := by
  unfold bias5
  pointwise
  simp only [hX, hA, hB, coe_sum_mul, ← EReal.coe_add]

/-- A layer on 250 columns. -/
theorem dense250 (X : FVec Ideal S1024x8x3x6x250 .f32) (A : FVec Ideal S250x128 .f32) (B : FVec Ideal S128 .f32)
    (hX : ∀ k : Fin 250, X (ix5 n t s p k) = ((x k : ℝ) : EReal)) (hA : ∀ k o, A (ix2 k o) = ((w k o : ℝ) : EReal))
    (hB : ∀ o, B (ix1 o) = ((β o : ℝ) : EReal)) :
    addf (Host.dotGeneral dot_S1024x8x3x6x250_S250x128_S1024x8x3x6x128_4_0_0123_1_n_n none X A) (bias5 B) (ix5 n t s p o)
      = ((∑ k : Fin 250, x k * w k o + β o : ℝ) : EReal) := by
  unfold bias5
  pointwise
  simp only [hX, hA, hB, coe_sum_mul, ← EReal.coe_add]

/-- A layer on 64 columns and 17 more. -/
theorem dense81 (X : FVec Ideal S1024x8x3x6x64 .f32) (Y : FVec Ideal S1024x8x3x6x17 .f32) (A : FVec Ideal S81x128 .f32)
    (B : FVec Ideal S128 .f32) (y : ℕ → ℝ)
    (hX : ∀ k : Fin 64, X (ix5 n t s p k) = ((x k : ℝ) : EReal)) (hY : ∀ k : Fin 17, Y (ix5 n t s p k) = ((y k : ℝ) : EReal))
    (hA : ∀ k o, A (ix2 k o) = ((w k o : ℝ) : EReal)) (hB : ∀ o, B (ix1 o) = ((β o : ℝ) : EReal)) :
    addf (Host.dotGeneral dot_S1024x8x3x6x81_S81x128_S1024x8x3x6x128_4_0_0123_1_n_n none (cat81 X Y) A) (bias5 B) (ix5 n t s p o)
      = ((∑ k : Fin 64, x k * w k o + ∑ k : Fin 17, y k * w (64 + k) o + β o : ℝ) : EReal) := by
  have hC : ∀ k : Fin 81, cat81 X Y (ix5 n t s p k) = (((if k.val < 64 then x k else y (k - 64) : ℝ)) : EReal) := fun k => by
    unfold cat81
    pointwise
    refine dite_both (fun h => ?_) (fun h => ?_)
    · rw [if_pos h]
      exact hX _
    · rw [if_neg h]
      exact hY _
  unfold bias5
  pointwise
  simp only [hC, hA, hB, coe_sum_mul, ← EReal.coe_add]
  refine congrArg (fun r : ℝ => (((r + β o : ℝ)) : EReal)) ?_
  refine (sum_split 64 17 (fun k => if k < 64 then x k else y (k - 64)) fun k => w k o).trans ?_
  refine congrArg₂ (· + ·) (Finset.sum_congr rfl fun k _ => ?_) (Finset.sum_congr rfl fun k _ => ?_)
  · rw [if_pos k.isLt]
  · rw [if_neg (by omega), Nat.add_sub_cancel_left]

/-- A layer on 128 columns and 6 more, for each move. -/
theorem dense134 (X : FVec Ideal S1024x8x3x6x4x128 .f32) (Y : FVec Ideal S1024x8x3x6x4x6 .f32) (A : FVec Ideal S134x128 .f32)
    (B : FVec Ideal S128 .f32) (y : ℕ → ℝ)
    (hX : ∀ k : Fin 128, X (ix6 n t s p q k) = ((x k : ℝ) : EReal)) (hY : ∀ k : Fin 6, Y (ix6 n t s p q k) = ((y k : ℝ) : EReal))
    (hA : ∀ k o, A (ix2 k o) = ((w k o : ℝ) : EReal)) (hB : ∀ o, B (ix1 o) = ((β o : ℝ) : EReal)) :
    addf (Host.dotGeneral dot_S1024x8x3x6x4x134_S134x128_S1024x8x3x6x4x128_5_0_01234_1_n_n none (cat134 X Y) A) (bias6 B) (ix6 n t s p q o)
      = ((∑ k : Fin 128, x k * w k o + ∑ k : Fin 6, y k * w (128 + k) o + β o : ℝ) : EReal) := by
  have hC : ∀ k : Fin 134, cat134 X Y (ix6 n t s p q k) = (((if k.val < 128 then x k else y (k - 128) : ℝ)) : EReal) := fun k => by
    unfold cat134
    pointwise
    refine dite_both (fun h => ?_) (fun h => ?_)
    · rw [if_pos h]
      exact hX _
    · rw [if_neg h]
      exact hY _
  unfold bias6
  pointwise
  simp only [hC, hA, hB, coe_sum_mul, ← EReal.coe_add]
  refine congrArg (fun r : ℝ => (((r + β o : ℝ)) : EReal)) ?_
  refine (sum_split 128 6 (fun k => if k < 128 then x k else y (k - 128)) fun k => w k o).trans ?_
  refine congrArg₂ (· + ·) (Finset.sum_congr rfl fun k _ => ?_) (Finset.sum_congr rfl fun k _ => ?_)
  · rw [if_pos k.isLt]
  · rw [if_neg (by omega), Nat.add_sub_cancel_left]

/-- A sum of three. -/
theorem sum3 (a b c : FVec Ideal S1024x8x3x6x128 .f32) (u v z : ℝ) (ha : a (ix5 n t s p o) = ((u : ℝ) : EReal))
    (hb : b (ix5 n t s p o) = ((v : ℝ) : EReal)) (hc : c (ix5 n t s p o) = ((z : ℝ) : EReal)) :
    addf (addf a b) c (ix5 n t s p o) = ((u + v + z : ℝ) : EReal) := by
  pointwise
  rw [ha, hb, hc, ← EReal.coe_add, ← EReal.coe_add]

/-- The four moves' sum. -/
theorem sum_moves (M : FVec Ideal S1024x8x3x6x4x128 .f32) (μ : Fin 4 → ℝ) (h : ∀ q, M (ix6 n t s p q o) = ((μ q : ℝ) : EReal)) :
    Host.reduceAdd M (constant S_ .f32 0x00000000#32) reducesTo_S1024x8x3x6x4x128_S1024x8x3x6x128_d4 h_S_ (ix5 n t s p o)
      = ((∑ q, μ q : ℝ) : EReal) := by
  pointwise
  rw [hostReduceAdd_r6_a4 _ (by decide)]
  pointwise
  simp only [h, coe_sum]

end

/-- The mask's one, as a number. -/
theorem uitofp_one : (FloatOps.uitofp .f32 (1#1 : BitVec 1) : Ideal .f32) = (1 : EReal) := by
  show (((1#1 : BitVec 1).toNat : ℝ) : EReal) = 1
  norm_num

/-- A known row keeps its embedding: the mask's bits are ones. The sides and the places are then numbered together. -/
theorem masked (X : FVec Ideal S1024x8x3x6x128 .f32) (K : IVec S1024x8x3x6 1) (hK : ∀ n t s p, K (ix4 n t s p) = 1#1)
    (n : Fin 1024) (t : Fin 8) (q : Fin 18) (o : Fin 128) :
    shapeCast S1024x8x18x128 (mulf X (broadcastInDim S1024x8x3x6x128 ![0, 1, 2, 3, 4] bcast_S1024x8x3x6x1_S1024x8x3x6x128_0_1_2_3_4
        (uitofp .f32 (broadcastInDim S1024x8x3x6x1 ![0, 1, 2, 3] bcast_S1024x8x3x6_S1024x8x3x6x1_0_1_2_3 K))))
        shapeCasts_S1024x8x3x6x128_S1024x8x18x128 (ix4 n t q o)
      = X (ix5 n t ⟨q.val / 6, by omega⟩ ⟨q.val % 6, by omega⟩ o) := by
  pointwise
  rw [hK, uitofp_one, mul_one]

end Cert.Emb.Ref
end
-- ==== Proof.Emb.RefIndex.lean ====
module

public import proofs.«01_k».proof.Proof.Gen.ReferenceIdeal.Run
public import proofs.«01_k».proof.Proof.Emb.Take
public import proofs.«01_k».proof.Proof.Emb.Word
public import Idealize.ShloMosaic.Lib.Tactic.CleanTypes
public import Idealize.ShloMosaic.Lib.Routing.OpsOrder
public import Idealize.ShloMosaic.Lib.Routing.OpsSet

/-!
# The reference's row numbers

Each integer feature of the reference, and each array of row numbers it takes rows by, at an input made of bits.
-/

@[expose] public section

set_option maxRecDepth 16384

noncomputable section

namespace Cert.Emb.Ref

open Cert.ReferenceIdeal Cert.ReferenceIdeal.Gen Cert.ReferenceIdeal.Value Idealize.ShloMosaic Idealize.ShloMosaic.TcCoe
  Idealize.ShloMosaic.StableHlo

/-- Row numbers over batch, turn, side and place, wrapped from below, with a last axis of one. -/
theorem wrap_four (I : IVec S1024x8x3x6 32) (N : BitVec 32) (k : Fin 1024 → Fin 8 → Fin 3 → Fin 6 → ℕ)
    (hk : ∀ n t s p, k n t s p < 2 ^ 31) (h : ∀ n t s p, I (ix4 n t s p) = BitVec.ofNat 32 (k n t s p)) (hb hb' hb'')
    (n : Fin 1024) (t : Fin 8) (s : Fin 3) (p : Fin 6) :
    broadcastInDim S1024x8x3x6x1 ![0, 1, 2, 3] hb
      (select (cmpi .slt I (broadcastInDim S1024x8x3x6 ![] hb' (constantI S_ 32 0#32)))
        (addi I (broadcastInDim S1024x8x3x6 ![] hb'' (constantI S_ 32 N))) I) (ix5 n t s p 0)
      = BitVec.ofNat 32 (k n t s p) := by
  pointwise
  rw [h]
  exact Take.wrap_word _ (hk n t s p) _

/-- The same with one more axis, of the four moves. -/
theorem wrap_moves (I : IVec S1024x8x3x6x4 32) (N : BitVec 32) (k : Fin 1024 → Fin 8 → Fin 3 → Fin 6 → Fin 4 → ℕ)
    (hk : ∀ n t s p q, k n t s p q < 2 ^ 31) (h : ∀ n t s p q, I (ix5 n t s p q) = BitVec.ofNat 32 (k n t s p q)) (hb hb' hb'')
    (n : Fin 1024) (t : Fin 8) (s : Fin 3) (p : Fin 6) (q : Fin 4) :
    broadcastInDim S1024x8x3x6x4x1 ![0, 1, 2, 3, 4] hb
      (select (cmpi .slt I (broadcastInDim S1024x8x3x6x4 ![] hb' (constantI S_ 32 0#32)))
        (addi I (broadcastInDim S1024x8x3x6x4 ![] hb'' (constantI S_ 32 N))) I) (ix6 n t s p q 0)
      = BitVec.ofNat 32 (k n t s p q) := by
  pointwise
  rw [h]
  exact Take.wrap_word _ (hk n t s p q) _

/-- The same with one more axis, of the five stats. -/
theorem wrap_stats (I : IVec S1024x8x3x6x5 32) (N : BitVec 32) (k : Fin 1024 → Fin 8 → Fin 3 → Fin 6 → Fin 5 → ℕ)
    (hk : ∀ n t s p q, k n t s p q < 2 ^ 31) (h : ∀ n t s p q, I (ix5 n t s p q) = BitVec.ofNat 32 (k n t s p q)) (hb hb' hb'')
    (n : Fin 1024) (t : Fin 8) (s : Fin 3) (p : Fin 6) (q : Fin 5) :
    broadcastInDim S1024x8x3x6x5x1 ![0, 1, 2, 3, 4] hb
      (select (cmpi .slt I (broadcastInDim S1024x8x3x6x5 ![] hb' (constantI S_ 32 0#32)))
        (addi I (broadcastInDim S1024x8x3x6x5 ![] hb'' (constantI S_ 32 N))) I) (ix6 n t s p q 0)
      = BitVec.ofNat 32 (k n t s p q) := by
  pointwise
  rw [h]
  exact Take.wrap_word _ (hk n t s p q) _

/-- A row number is small. -/
theorem rowNat_small (v : Bool) : rowNat v < 2 ^ 31 := by
  cases v <;> decide

/-- The lesser of a row number and 63. -/
theorem min_row (v : Bool) : IntOp.minsi (BitVec.ofNat 32 (rowNat v)) 63#32 = BitVec.ofNat 32 (rowNat v) := by
  cases v <;> decide

/-! ### The side and the known flag -/

/-- The axes of an update of the first two sides, read at the coordinates it lands on. -/
theorem side_lands (st : BitVec 32) (k : S1024x8x2x6.Idx) (n : Fin 1024) (t : Fin 8) (s : Fin 3) (p : Fin 6) :
    scatter_S1024x8x3x6_S1_S1024x8x2x6_0123_n_2_0.resultIdx? k (fun _ : S1.Idx => st) = some (ix4 n t s p)
      ↔ (k 0).val = n.val ∧ (k 1).val = t.val ∧ st.toInt + (k 2).val = s.val ∧ (k 3).val = p.val := by
  rw [Routing.resultIdx?_eq_some]
  have h0 : scatter_S1024x8x3x6_S1_S1024x8x2x6_0123_n_2_0.start k (fun _ : S1.Idx => st) 0 = 0 := rfl
  have h1 : scatter_S1024x8x3x6_S1_S1024x8x2x6_0123_n_2_0.start k (fun _ : S1.Idx => st) 1 = 0 := rfl
  have h2 : scatter_S1024x8x3x6_S1_S1024x8x2x6_0123_n_2_0.start k (fun _ : S1.Idx => st) 2 = st.toInt := rfl
  have h3 : scatter_S1024x8x3x6_S1_S1024x8x2x6_0123_n_2_0.start k (fun _ : S1.Idx => st) 3 = 0 := rfl
  have w0 : scatter_S1024x8x3x6_S1_S1024x8x2x6_0123_n_2_0.window k 0 = (k 0).val := rfl
  have w1 : scatter_S1024x8x3x6_S1_S1024x8x2x6_0123_n_2_0.window k 1 = (k 1).val := rfl
  have w2 : scatter_S1024x8x3x6_S1_S1024x8x2x6_0123_n_2_0.window k 2 = (k 2).val := rfl
  have w3 : scatter_S1024x8x3x6_S1_S1024x8x2x6_0123_n_2_0.window k 3 = (k 3).val := rfl
  constructor
  · intro h
    have a0 := h 0
    have a1 := h 1
    have a2 := h 2
    have a3 := h 3
    rw [h0, w0] at a0
    rw [h1, w1] at a1
    rw [h2, w2] at a2
    rw [h3, w3] at a3
    have c0 : (ix4 n t s p (0 : Fin 4)).val = n.val := rfl
    have c1 : (ix4 n t s p (1 : Fin 4)).val = t.val := rfl
    have c2 : (ix4 n t s p (2 : Fin 4)).val = s.val := rfl
    have c3 : (ix4 n t s p (3 : Fin 4)).val = p.val := rfl
    rw [c0] at a0
    rw [c1] at a1
    rw [c2] at a2
    rw [c3] at a3
    omega
  · rintro ⟨a0, a1, a2, a3⟩ a
    match a with
    | ⟨0, _⟩ => show (0 : ℤ) + ((k 0).val : ℤ) = (n.val : ℤ); omega
    | ⟨1, _⟩ => show (0 : ℤ) + ((k 1).val : ℤ) = (t.val : ℤ); omega
    | ⟨2, _⟩ => show st.toInt + ((k 2).val : ℤ) = (s.val : ℤ); omega
    | ⟨3, _⟩ => show (0 : ℤ) + ((k 3).val : ℤ) = (p.val : ℤ); omega

/-- The side number's row: 1 for the last side, 0 before it. -/
def sideRow (s : Fin 3) : Fin 2 := if s.val = 2 then 1 else 0

/-- The side flag. -/
theorem v92_apply (V : Valuation τ sig (Elt Ideal)) (n : Fin 1024) (t : Fin 8) (s : Fin 3) (p : Fin 6) :
    (res_main_v92 V : IVec S1024x8x3x6 32) (ix4 n t s p) = BitVec.ofNat 32 (sideRow s).val := by
  unfold res_main_v92
  clean_types
  show Host.scatter scatter_S1024x8x3x6_S1_S1024x8x2x6_0123_n_2_0 (fun _ b => b) (fun _ => 1#32) (fun _ => 0#32) (fun _ => 0#32)
    (ix4 n t s p) = _
  have z : (0#32 : BitVec 32).toInt = 0 := by decide
  by_cases h : s.val = 2
  · rw [sideRow, if_pos h, Routing.scatter_set_miss]
    · rfl
    · intro k hk
      have := ((side_lands 0#32 k n t s p).1 hk).2.2.1
      have h2 : (k 2).val < 2 := (k 2).isLt
      omega
  · rw [sideRow, if_neg h]
    refine Routing.scatter_set_hit _ _ _ _ _ _ (fun _ _ => rfl) (ix4 n t ⟨s.val, by omega⟩ p) ?_
    exact (side_lands 0#32 _ n t s p).2 ⟨rfl, rfl, by rw [z]; exact zero_add _, rfl⟩

/-- The known flag is nought. -/
theorem v96_apply (V : Valuation τ sig (Elt Ideal)) (n : Fin 1024) (t : Fin 8) (s : Fin 3) (p : Fin 6) :
    (res_main_v96 V : IVec S1024x8x3x6 32) (ix4 n t s p) = BitVec.ofNat 32 0 := by
  unfold res_main_v96
  clean_types
  exact Routing.scatter_forall _ _ (fun a => a = BitVec.ofNat 32 0) (fun _ _ _ h => h) _ _ _ (fun _ => rfl) (fun _ => rfl) _

variable {V : Valuation τ sig (Elt Ideal)} {b : Fin 1024 → Fin 8 → Fin 3 → Fin 6 → Row}
  (hx : ∀ n t s p j, (V (Proc.devRef .tc main_arg0) : FVec Ideal S1024x8x3x6x36 .f32) (ix5 n t s p j)
    = ((bitR (b n t s p j) : ℝ) : EReal))

include hx

/-- A feature plus one, as an integer. -/
theorem v2_apply (n : Fin 1024) (t : Fin 8) (s : Fin 3) (p : Fin 6) (j : Fin 36) :
    (res_main_v2 V : IVec S1024x8x3x6x36 32) (ix5 n t s p j) = BitVec.ofNat 32 (rowNat (b n t s p j)) := by
  unfold res_main_v2
  clean_types
  pointwise
  rw [hx]
  exact fptosi_bit_succ _

/-- One feature plus one, as an integer over batch, turn, side and place. -/
theorem col_apply (j : Fin 36) (hs : S1024x8x3x6x36.Slices ![0, 0, 0, 0, j.val] S1024x8x3x6x1) (hc)
    (n : Fin 1024) (t : Fin 8) (s : Fin 3) (p : Fin 6) :
    shapeCast S1024x8x3x6 (extractStridedSlice S1024x8x3x6x1 ![0, 0, 0, 0, j.val] (res_main_v2 V : IVec S1024x8x3x6x36 32) hs) hc
      (ix4 n t s p) = BitVec.ofNat 32 (rowNat (b n t s p j)) := by
  pointwise
  exact v2_apply hx n t s p j

/-- The row numbers of one feature. -/
theorem rows_apply (j : Fin 36) (N : BitVec 32) (hs : S1024x8x3x6x36.Slices ![0, 0, 0, 0, j.val] S1024x8x3x6x1) (hc) (hb hb' hb'')
    (n : Fin 1024) (t : Fin 8) (s : Fin 3) (p : Fin 6) :
    broadcastInDim S1024x8x3x6x1 ![0, 1, 2, 3] hb
      (select (cmpi .slt (shapeCast S1024x8x3x6 (extractStridedSlice S1024x8x3x6x1 ![0, 0, 0, 0, j.val] (res_main_v2 V : IVec S1024x8x3x6x36 32) hs) hc)
          (broadcastInDim S1024x8x3x6 ![] hb' (constantI S_ 32 0#32)))
        (addi (shapeCast S1024x8x3x6 (extractStridedSlice S1024x8x3x6x1 ![0, 0, 0, 0, j.val] (res_main_v2 V : IVec S1024x8x3x6x36 32) hs) hc)
          (broadcastInDim S1024x8x3x6 ![] hb'' (constantI S_ 32 N)))
        (shapeCast S1024x8x3x6 (extractStridedSlice S1024x8x3x6x1 ![0, 0, 0, 0, j.val] (res_main_v2 V : IVec S1024x8x3x6x36 32) hs) hc))
      (ix5 n t s p 0) = BitVec.ofNat 32 (rowNat (b n t s p j)) :=
  wrap_four _ N (fun n t s p => rowNat (b n t s p j)) (fun _ _ _ _ => rowNat_small _) (col_apply hx j hs hc) hb hb' hb'' n t s p

/-- The name's row numbers. -/
theorem call0_apply (n : Fin 1024) (t : Fin 8) (s : Fin 3) (p : Fin 6) :
    (res_main_call0_v5 V : IVec S1024x8x3x6x1 32) (ix5 n t s p 0) = BitVec.ofNat 32 (rowNat (b n t s p 0)) := by
  unfold res_main_call0_v5 res_main_v4
  clean_types
  exact rows_apply hx 0 _ _ _ _ _ _ n t s p

/-- The hit point's row numbers. -/
theorem call1_apply (n : Fin 1024) (t : Fin 8) (s : Fin 3) (p : Fin 6) :
    (res_main_call1_v5 V : IVec S1024x8x3x6x1 32) (ix5 n t s p 0) = BitVec.ofNat 32 (rowNat (b n t s p 3)) := by
  unfold res_main_call1_v5 res_main_v8
  clean_types
  exact rows_apply hx 3 _ _ _ _ _ _ n t s p

/-- The greatest hit point's row numbers. -/
theorem call2_apply (n : Fin 1024) (t : Fin 8) (s : Fin 3) (p : Fin 6) :
    (res_main_call2_v5 V : IVec S1024x8x3x6x1 32) (ix5 n t s p 0) = BitVec.ofNat 32 (rowNat (b n t s p 4)) := by
  unfold res_main_call2_v5 res_main_v10
  clean_types
  exact rows_apply hx 4 _ _ _ _ _ _ n t s p

/-- The ability's row numbers. -/
theorem call4_apply (n : Fin 1024) (t : Fin 8) (s : Fin 3) (p : Fin 6) :
    (res_main_call4_v5 V : IVec S1024x8x3x6x1 32) (ix5 n t s p 0) = BitVec.ofNat 32 (rowNat (b n t s p 15)) := by
  unfold res_main_call4_v5 res_main_v24
  clean_types
  exact rows_apply hx 15 _ _ _ _ _ _ n t s p

/-- The item's row numbers. -/
theorem call5_apply (n : Fin 1024) (t : Fin 8) (s : Fin 3) (p : Fin 6) :
    (res_main_call5_v5 V : IVec S1024x8x3x6x1 32) (ix5 n t s p 0) = BitVec.ofNat 32 (rowNat (b n t s p 17)) := by
  unfold res_main_call5_v5 res_main_v26
  clean_types
  exact rows_apply hx 17 _ _ _ _ _ _ n t s p

/-- The item effect's row numbers. -/
theorem call6_apply (n : Fin 1024) (t : Fin 8) (s : Fin 3) (p : Fin 6) :
    (res_main_call6_v5 V : IVec S1024x8x3x6x1 32) (ix5 n t s p 0) = BitVec.ofNat 32 (rowNat (b n t s p 19)) := by
  unfold res_main_call6_v5 res_main_v28
  clean_types
  exact rows_apply hx 19 _ _ _ _ _ _ n t s p

/-- The status's row numbers. -/
theorem call7_apply (n : Fin 1024) (t : Fin 8) (s : Fin 3) (p : Fin 6) :
    (res_main_call7_v5 V : IVec S1024x8x3x6x1 32) (ix5 n t s p 0) = BitVec.ofNat 32 (rowNat (b n t s p 21)) := by
  unfold res_main_call7_v5 res_main_v30
  clean_types
  exact rows_apply hx 21 _ _ _ _ _ _ n t s p

/-- The sleep's row numbers. -/
theorem call8_apply (n : Fin 1024) (t : Fin 8) (s : Fin 3) (p : Fin 6) :
    (res_main_call8_v5 V : IVec S1024x8x3x6x1 32) (ix5 n t s p 0) = BitVec.ofNat 32 (rowNat (b n t s p 22)) := by
  unfold res_main_call8_v5 res_main_v32
  clean_types
  exact rows_apply hx 22 _ _ _ _ _ _ n t s p

/-- The toxic's row numbers. -/
theorem call9_apply (n : Fin 1024) (t : Fin 8) (s : Fin 3) (p : Fin 6) :
    (res_main_call9_v5 V : IVec S1024x8x3x6x1 32) (ix5 n t s p 0) = BitVec.ofNat 32 (rowNat (b n t s p 23)) := by
  unfold res_main_call9_v5 res_main_v34
  clean_types
  exact rows_apply hx 23 _ _ _ _ _ _ n t s p

/-- The forme's row numbers. -/
theorem call14_apply (n : Fin 1024) (t : Fin 8) (s : Fin 3) (p : Fin 6) :
    (res_main_call14_v5 V : IVec S1024x8x3x6x1 32) (ix5 n t s p 0) = BitVec.ofNat 32 (rowNat (b n t s p 1)) := by
  unfold res_main_call14_v5 res_main_v6
  clean_types
  exact rows_apply hx 1 _ _ _ _ _ _ n t s p

/-- The active flag's row numbers. -/
theorem call15_apply (n : Fin 1024) (t : Fin 8) (s : Fin 3) (p : Fin 6) :
    (res_main_call15_v5 V : IVec S1024x8x3x6x1 32) (ix5 n t s p 0) = BitVec.ofNat 32 (rowNat (b n t s p 12)) := by
  unfold res_main_call15_v5 res_main_v17
  clean_types
  exact rows_apply hx 12 _ _ _ _ _ _ n t s p

/-- The fainted flag's row numbers. -/
theorem call16_apply (n : Fin 1024) (t : Fin 8) (s : Fin 3) (p : Fin 6) :
    (res_main_call16_v5 V : IVec S1024x8x3x6x1 32) (ix5 n t s p 0) = BitVec.ofNat 32 (rowNat (b n t s p 11)) := by
  unfold res_main_call16_v5 res_main_v15
  clean_types
  exact rows_apply hx 11 _ _ _ _ _ _ n t s p

/-- The gender's row numbers. -/
theorem call17_apply (n : Fin 1024) (t : Fin 8) (s : Fin 3) (p : Fin 6) :
    (res_main_call17_v5 V : IVec S1024x8x3x6x1 32) (ix5 n t s p 0) = BitVec.ofNat 32 (rowNat (b n t s p 14)) := by
  unfold res_main_call17_v5 res_main_v22
  clean_types
  exact rows_apply hx 14 _ _ _ _ _ _ n t s p

/-- The tera type's row numbers. -/
theorem call21_apply (n : Fin 1024) (t : Fin 8) (s : Fin 3) (p : Fin 6) :
    (res_main_call21_v5 V : IVec S1024x8x3x6x1 32) (ix5 n t s p 0) = BitVec.ofNat 32 (rowNat (b n t s p 35)) := by
  unfold res_main_call21_v5 res_main_v48
  clean_types
  exact rows_apply hx 35 _ _ _ _ _ _ n t s p

/-- The stats' row numbers. -/
theorem call3_apply (n : Fin 1024) (t : Fin 8) (s : Fin 3) (p : Fin 6) (q : Fin 5) :
    (res_main_call3_v5 V : IVec S1024x8x3x6x5x1 32) (ix6 n t s p q 0) = BitVec.ofNat 32 (rowNat (b n t s p ⟨6 + q.val, by omega⟩)) := by
  unfold res_main_call3_v5 res_main_v13
  clean_types
  refine wrap_stats _ _ (fun n t s p q => rowNat (b n t s p ⟨6 + q.val, by omega⟩)) (fun _ _ _ _ _ => rowNat_small _)
    (fun n t s p q => ?_) _ _ _ n t s p q
  pointwise
  exact v2_apply hx n t s p _

/-- The moves' row numbers. -/
theorem call10_apply (n : Fin 1024) (t : Fin 8) (s : Fin 3) (p : Fin 6) (q : Fin 4) :
    (res_main_call10_v5 V : IVec S1024x8x3x6x4x1 32) (ix6 n t s p q 0) = BitVec.ofNat 32 (rowNat (b n t s p (Weights.mvJ q))) := by
  unfold res_main_call10_v5 res_main_v41
  clean_types
  refine wrap_moves _ _ (fun n t s p q => rowNat (b n t s p (Weights.mvJ q))) (fun _ _ _ _ _ => rowNat_small _)
    (fun n t s p q => ?_) _ _ _ n t s p q
  pointwise
  exact v2_apply hx n t s p _

/-- The power points' row numbers. -/
theorem call11_apply (n : Fin 1024) (t : Fin 8) (s : Fin 3) (p : Fin 6) (q : Fin 4) :
    (res_main_call11_v5 V : IVec S1024x8x3x6x4x1 32) (ix6 n t s p q 0) = BitVec.ofNat 32 (rowNat (b n t s p (Weights.ppJ q))) := by
  unfold res_main_call11_v5 res_main_v44
  clean_types
  refine wrap_moves _ _ (fun n t s p q => rowNat (b n t s p (Weights.ppJ q))) (fun _ _ _ _ _ => rowNat_small _)
    (fun n t s p q => ?_) _ _ _ n t s p q
  pointwise
  rw [v2_apply hx]
  exact min_row _

/-- The level's row numbers are nought. -/
theorem call18_apply (n : Fin 1024) (t : Fin 8) (s : Fin 3) (p : Fin 6) :
    (res_main_call18_v5 V : IVec S1024x8x3x6x1 32) (ix5 n t s p 0) = BitVec.ofNat 32 0 := by
  unfold res_main_call18_v5
  clean_types
  refine wrap_four _ _ (fun _ _ _ _ => 0) (fun _ _ _ _ => by decide) (fun n t s p => ?_) _ _ _ n t s p
  unfold res_main_v105
  clean_types
  pointwise
  rw [hx]
  have e : ∀ v : Bool, IntOp.subi (IntOp.maxsi (BitVec.ofNat 32 v.toNat) 1#32) 1#32 = BitVec.ofNat 32 0 := by decide
  exact (congrArg (fun w => IntOp.subi (IntOp.maxsi w 1#32) 1#32) (fptosi_bit _)).trans (e _)

/-- The tera flag's row numbers are one. -/
theorem call22_apply (n : Fin 1024) (t : Fin 8) (s : Fin 3) (p : Fin 6) :
    (res_main_call22_v5 V : IVec S1024x8x3x6x1 32) (ix5 n t s p 0) = BitVec.ofNat 32 1 := by
  unfold res_main_call22_v5
  clean_types
  refine wrap_four _ _ (fun _ _ _ _ => 1) (fun _ _ _ _ => by decide) (fun n t s p => ?_) _ _ _ n t s p
  unfold res_main_v113
  clean_types
  pointwise
  rw [v2_apply hx]
  have e : ∀ v : Bool, (IntOp.cmpi .sgt (BitVec.ofNat 32 (rowNat v)) 0#32).setWidth 32 = BitVec.ofNat 32 1 := by decide
  exact e _

/-- Every name is set. -/
theorem v125_apply (n : Fin 1024) (t : Fin 8) (s : Fin 3) (p : Fin 6) :
    (res_main_v125 V : IVec S1024x8x3x6 1) (ix4 n t s p) = 1#1 := by
  unfold res_main_v125 res_main_v4
  clean_types
  pointwise
  rw [v2_apply hx]
  have e : ∀ v : Bool, IntOp.cmpi .ne (BitVec.ofNat 32 (rowNat v)) 0#32 = 1#1 := by decide
  exact e _

omit hx in
/-- The side's row numbers. -/
theorem call19_apply (n : Fin 1024) (t : Fin 8) (s : Fin 3) (p : Fin 6) :
    (res_main_call19_v5 V : IVec S1024x8x3x6x1 32) (ix5 n t s p 0) = BitVec.ofNat 32 (sideRow s).val := by
  unfold res_main_call19_v5
  clean_types
  exact wrap_four _ _ (fun _ _ s _ => (sideRow s).val) (fun _ _ s _ => by have := (sideRow s).isLt; omega) (v92_apply V) _ _ _ n t s p

omit hx in
/-- The known flag's row numbers are nought. -/
theorem call20_apply (n : Fin 1024) (t : Fin 8) (s : Fin 3) (p : Fin 6) :
    (res_main_call20_v5 V : IVec S1024x8x3x6x1 32) (ix5 n t s p 0) = BitVec.ofNat 32 0 := by
  unfold res_main_call20_v5
  clean_types
  exact wrap_four _ _ (fun _ _ _ _ => 0) (fun _ _ _ _ => by decide) (v96_apply V) _ _ _ n t s p

end Cert.Emb.Ref
end
-- ==== Proof.Emb.RefTables.lean ====
module

public import proofs.«01_k».proof.Proof.Gen.ReferenceIdeal.Run
public import proofs.«01_k».proof.Proof.Emb.Word
public import Idealize.ShloMosaic.Lib.Pointwise

/-!
# The reference's tables of constants

The two rows a bit can select of each one-hot table of the reference (or the one row that is ever selected).
-/

@[expose] public section

set_option maxRecDepth 16384

noncomputable section

namespace Cert.Emb.RefTables

open Cert.ReferenceIdeal Cert.ReferenceIdeal.Gen Idealize.ShloMosaic

/-- The hit-point table. -/
def hpT : FVec Ideal S768x27 .f32 := fun i => FloatOps.ofBits .f32 (lit0 (S768x27.rowMajor i))

/-- Its rows. -/
theorem hpT_row (v : Bool) (o : Fin 27) : hpT (ix2 (bitRow 768 (by decide) v) o) = ((bitR (o.val == 0) : ℝ) : EReal) :=
  (congrArg (Ideal.ofBits .f32) ((by decide +kernel : ∀ (v : Bool) (o : Fin 27), lit0 (S768x27.rowMajor (ix2 (bitRow 768 (by decide) v) o)) = bitPattern (o.val == 0)) v o)).trans
    (ofBits_pattern _)

/-- The stat table. -/
def statT : FVec Ideal S512x7 .f32 := fun i => FloatOps.ofBits .f32 (lit1 (S512x7.rowMajor i))

/-- Its rows. -/
theorem statT_row (v : Bool) (o : Fin 7) : statT (ix2 (bitRow 512 (by decide) v) o) = ((bitR (o.val == 0) : ℝ) : EReal) :=
  (congrArg (Ideal.ofBits .f32) ((by decide +kernel : ∀ (v : Bool) (o : Fin 7), lit1 (S512x7.rowMajor (ix2 (bitRow 512 (by decide) v) o)) = bitPattern (o.val == 0)) v o)).trans
    (ofBits_pattern _)

/-- The item-effect table. -/
def effT : FVec Ideal S18x17 .f32 := fun i => FloatOps.ofBits .f32 (lit2 (S18x17.rowMajor i))

/-- Its rows. -/
theorem effT_row (v : Bool) (o : Fin 17) : effT (ix2 (bitRow 18 (by decide) v) o) = ((bitR (o.val == v.toNat) : ℝ) : EReal) :=
  (congrArg (Ideal.ofBits .f32) ((by decide +kernel : ∀ (v : Bool) (o : Fin 17), lit2 (S18x17.rowMajor (ix2 (bitRow 18 (by decide) v) o)) = bitPattern (o.val == v.toNat)) v o)).trans
    (ofBits_pattern _)

/-- The status table. -/
def statusT : FVec Ideal S8x7 .f32 := fun i => FloatOps.ofBits .f32 (lit3 (S8x7.rowMajor i))

/-- Its rows. -/
theorem statusT_row (v : Bool) (o : Fin 7) : statusT (ix2 (bitRow 8 (by decide) v) o) = ((bitR (o.val == v.toNat) : ℝ) : EReal) :=
  (congrArg (Ideal.ofBits .f32) ((by decide +kernel : ∀ (v : Bool) (o : Fin 7), lit3 (S8x7.rowMajor (ix2 (bitRow 8 (by decide) v) o)) = bitPattern (o.val == v.toNat)) v o)).trans
    (ofBits_pattern _)

/-- The sleep table. -/
def sleepT : FVec Ideal S4x3 .f32 := fun i => FloatOps.ofBits .f32 (lit4 (S4x3.rowMajor i))

/-- Its rows. -/
theorem sleepT_row (v : Bool) (o : Fin 3) : sleepT (ix2 (bitRow 4 (by decide) v) o) = ((bitR (o.val == v.toNat) : ℝ) : EReal) :=
  (congrArg (Ideal.ofBits .f32) ((by decide +kernel : ∀ (v : Bool) (o : Fin 3), lit4 (S4x3.rowMajor (ix2 (bitRow 4 (by decide) v) o)) = bitPattern (o.val == v.toNat)) v o)).trans
    (ofBits_pattern _)

/-- The toxic table. -/
def toxicT : FVec Ideal S16x3 .f32 := fun i => FloatOps.ofBits .f32 (lit5 (S16x3.rowMajor i))

/-- Its rows. -/
theorem toxicT_row (v : Bool) (o : Fin 3) : toxicT (ix2 (bitRow 16 (by decide) v) o) = ((bitR (o.val == 0) : ℝ) : EReal) :=
  (congrArg (Ideal.ofBits .f32) ((by decide +kernel : ∀ (v : Bool) (o : Fin 3), lit5 (S16x3.rowMajor (ix2 (bitRow 16 (by decide) v) o)) = bitPattern (o.val == 0)) v o)).trans
    (ofBits_pattern _)

/-- The power-point table. -/
def ppT : FVec Ideal S64x6 .f32 := fun i => FloatOps.ofBits .f32 (lit6 (S64x6.rowMajor i))

/-- Its rows. -/
theorem ppT_row (v : Bool) (o : Fin 6) : ppT (ix2 (bitRow 64 (by decide) v) o) = ((bitR (o.val == v.toNat) : ℝ) : EReal) :=
  (congrArg (Ideal.ofBits .f32) ((by decide +kernel : ∀ (v : Bool) (o : Fin 6), lit6 (S64x6.rowMajor (ix2 (bitRow 64 (by decide) v) o)) = bitPattern (o.val == v.toNat)) v o)).trans
    (ofBits_pattern _)

/-- The forme table. -/
def formeT : FVec Ideal S16x15 .f32 := fun i => FloatOps.ofBits .f32 (lit7 (S16x15.rowMajor i))

/-- Its rows. -/
theorem formeT_row (v : Bool) (o : Fin 15) : formeT (ix2 (bitRow 16 (by decide) v) o) = ((bitR (o.val == v.toNat) : ℝ) : EReal) :=
  (congrArg (Ideal.ofBits .f32) ((by decide +kernel : ∀ (v : Bool) (o : Fin 15), lit7 (S16x15.rowMajor (ix2 (bitRow 16 (by decide) v) o)) = bitPattern (o.val == v.toNat)) v o)).trans
    (ofBits_pattern _)

/-- The active table. -/
def activeT : FVec Ideal S3x2 .f32 := fun i => FloatOps.ofBits .f32 (lit8 (S3x2.rowMajor i))

/-- Its rows. -/
theorem activeT_row (v : Bool) (o : Fin 2) : activeT (ix2 (bitRow 3 (by decide) v) o) = ((bitR (o.val == v.toNat) : ℝ) : EReal) :=
  (congrArg (Ideal.ofBits .f32) ((by decide +kernel : ∀ (v : Bool) (o : Fin 2), lit8 (S3x2.rowMajor (ix2 (bitRow 3 (by decide) v) o)) = bitPattern (o.val == v.toNat)) v o)).trans
    (ofBits_pattern _)

/-- The fainted table. -/
def faintedT : FVec Ideal S3x2 .f32 := fun i => FloatOps.ofBits .f32 (lit9 (S3x2.rowMajor i))

/-- Its rows. -/
theorem faintedT_row (v : Bool) (o : Fin 2) : faintedT (ix2 (bitRow 3 (by decide) v) o) = ((bitR (o.val == v.toNat) : ℝ) : EReal) :=
  (congrArg (Ideal.ofBits .f32) ((by decide +kernel : ∀ (v : Bool) (o : Fin 2), lit9 (S3x2.rowMajor (ix2 (bitRow 3 (by decide) v) o)) = bitPattern (o.val == v.toNat)) v o)).trans
    (ofBits_pattern _)

/-- The gender table. -/
def genderT : FVec Ideal S4x3 .f32 := fun i => FloatOps.ofBits .f32 (lit10 (S4x3.rowMajor i))

/-- Its rows. -/
theorem genderT_row (v : Bool) (o : Fin 3) : genderT (ix2 (bitRow 4 (by decide) v) o) = ((bitR (o.val == v.toNat) : ℝ) : EReal) :=
  (congrArg (Ideal.ofBits .f32) ((by decide +kernel : ∀ (v : Bool) (o : Fin 3), lit10 (S4x3.rowMajor (ix2 (bitRow 4 (by decide) v) o)) = bitPattern (o.val == v.toNat)) v o)).trans
    (ofBits_pattern _)

/-- The level table. -/
def levelT : FVec Ideal S100x100 .f32 := fun i => FloatOps.ofBits .f32 (lit11 (S100x100.rowMajor i))

/-- Its rows. -/
theorem levelT_row (o : Fin 100) : levelT (ix2 0 o) = ((bitR (o.val == 0) : ℝ) : EReal) :=
  (congrArg (Ideal.ofBits .f32) ((by decide +kernel : ∀ (o : Fin 100), lit11 (S100x100.rowMajor (ix2 0 o)) = bitPattern (o.val == 0)) o)).trans
    (ofBits_pattern _)

/-- The side table. -/
def sideT : FVec Ideal S2x2 .f32 := fun i => FloatOps.ofBits .f32 (lit12 (S2x2.rowMajor i))

/-- Its rows. -/
theorem sideT_row (r : Fin 2) (o : Fin 2) : sideT (ix2 r o) = ((bitR (o.val == r.val) : ℝ) : EReal) :=
  (congrArg (Ideal.ofBits .f32) ((by decide +kernel : ∀ (r : Fin 2) (o : Fin 2), lit12 (S2x2.rowMajor (ix2 r o)) = bitPattern (o.val == r.val)) r o)).trans
    (ofBits_pattern _)

/-- The known table. -/
def knownT : FVec Ideal S2x2 .f32 := fun i => FloatOps.ofBits .f32 (lit13 (S2x2.rowMajor i))

/-- Its rows. -/
theorem knownT_row (o : Fin 2) : knownT (ix2 0 o) = ((bitR (o.val == 0) : ℝ) : EReal) :=
  (congrArg (Ideal.ofBits .f32) ((by decide +kernel : ∀ (o : Fin 2), lit13 (S2x2.rowMajor (ix2 0 o)) = bitPattern (o.val == 0)) o)).trans
    (ofBits_pattern _)

/-- The tera-type table. -/
def typeT : FVec Ideal S20x19 .f32 := fun i => FloatOps.ofBits .f32 (lit14 (S20x19.rowMajor i))

/-- Its rows. -/
theorem typeT_row (v : Bool) (o : Fin 19) : typeT (ix2 (bitRow 20 (by decide) v) o) = ((bitR (o.val == v.toNat) : ℝ) : EReal) :=
  (congrArg (Ideal.ofBits .f32) ((by decide +kernel : ∀ (v : Bool) (o : Fin 19), lit14 (S20x19.rowMajor (ix2 (bitRow 20 (by decide) v) o)) = bitPattern (o.val == v.toNat)) v o)).trans
    (ofBits_pattern _)

/-- The tera table. -/
def teraT : FVec Ideal S2x2 .f32 := fun i => FloatOps.ofBits .f32 (lit15 (S2x2.rowMajor i))

/-- Its rows. -/
theorem teraT_row (o : Fin 2) : teraT (ix2 1 o) = ((bitR (o.val == 1) : ℝ) : EReal) :=
  (congrArg (Ideal.ofBits .f32) ((by decide +kernel : ∀ (o : Fin 2), lit15 (S2x2.rowMajor (ix2 1 o)) = bitPattern (o.val == 1)) o)).trans
    (ofBits_pattern _)

end Cert.Emb.RefTables
end
-- ==== Proof.Emb.RefOnehot.lean ====
module

public import proofs.«01_k».proof.Proof.Emb.RefIndex
public import proofs.«01_k».proof.Proof.Emb.RefTables
public import proofs.«01_k».proof.Proof.Emb.RefCat

/-!
# The reference's one-hot columns

Each of the 250 columns is the bit `hot` names.
-/

@[expose] public section

set_option maxRecDepth 16384

noncomputable section

namespace Cert.Emb.Ref

open Cert.ReferenceIdeal Cert.ReferenceIdeal.Gen Cert.ReferenceIdeal.Value Idealize.ShloMosaic Idealize.ShloMosaic.TcCoe
  Idealize.ShloMosaic.StableHlo

/-- A column's bit, read along the chain of column ranges. -/
theorem hot_chain (b : Row) (l : Bool) (k : ℕ) : hot b l k =
    if k < 15 then k == (b 1).toNat else if k < 42 then k == 15 else if k < 69 then k == 42 else if k < 70 then b 5
    else if k < 105 then (k - 70) % 7 == 0 else if k < 107 then k - 105 == (b 12).toNat else if k < 109 then k - 107 == (b 11).toNat
    else if k < 112 then k - 109 == (b 14).toNat else if k < 212 then k == 112 else if k < 219 then k - 212 == (b 21).toNat
    else if k < 222 then k - 219 == (b 22).toNat else if k < 225 then k == 222 else if k < 227 then k - 225 == l.toNat
    else if k < 229 then k == 227 else if k < 248 then k - 229 == (b 35).toNat else k == 249 := by
  unfold hot colHot colFeature
  by_cases h1 : k < 15
  · simp only [if_pos h1]
  by_cases h2 : k < 42
  · rw [if_neg h1, if_pos h2, if_neg h1, if_pos h2]
  by_cases h3 : k < 69
  · rw [if_neg h1, if_neg h2, if_pos h3, if_neg h1, if_neg h2, if_pos h3]
  simp only [if_neg h1, if_neg h2, if_neg h3]
  by_cases h4 : k < 70
  · simp only [if_pos h4]
  by_cases h5 : k < 105
  · simp only [if_neg h4, if_pos h5]
  by_cases h6 : k < 107
  · simp only [if_neg h4, if_neg h5, if_pos h6]
  by_cases h7 : k < 109
  · simp only [if_neg h4, if_neg h5, if_neg h6, if_pos h7]
  by_cases h8 : k < 112
  · simp only [if_neg h4, if_neg h5, if_neg h6, if_neg h7, if_pos h8]
  simp only [if_neg h4, if_neg h5, if_neg h6, if_neg h7, if_neg h8]
  by_cases h9 : k < 212
  · simp only [if_pos h9]
  by_cases h10 : k < 219
  · simp only [if_neg h9, if_pos h10]
  by_cases h11 : k < 222
  · simp only [if_neg h9, if_neg h10, if_pos h11]
  simp only [if_neg h9, if_neg h10, if_neg h11]
  by_cases h12 : k < 225
  · simp only [if_pos h12]
  by_cases h13 : k < 227
  · simp only [if_neg h12, if_pos h13]
  by_cases h14 : k < 229
  · simp only [if_neg h12, if_neg h13, if_pos h14]
  by_cases h15 : k < 248
  · simp only [if_neg h12, if_neg h13, if_neg h14, if_pos h15]
  simp only [if_neg h12, if_neg h13, if_neg h14, if_neg h15]

/-- The five stat rows of seven columns, read as one row of thirty-five columns. -/
theorem stat_at (x : FVec Ideal S1024x8x3x6x5x7 .f32) (h) (n : Fin 1024) (t : Fin 8) (s : Fin 3) (p : Fin 6) (o : Fin 35) :
    shapeCast S1024x8x3x6x35 x h (ix5 n t s p o) = x (ix6 n t s p ⟨o.val / 7, by omega⟩ ⟨o.val % 7, by omega⟩) := by
  pointwise

/-- Equal columns of equal bits. -/
theorem bit_eq {u v : Bool} (h : u = v) : (((bitR u : ℝ) : ℝ) : EReal) = ((bitR v : ℝ) : EReal) := by rw [h]

/-- A shifted number is its shift's start exactly when it is nought. -/
theorem shift_beq (a k : ℕ) : (k == 0) = (a + k == a) := by
  rw [Bool.eq_iff_iff]
  simp

variable {V : Valuation τ sig (Elt Ideal)} {b : Fin 1024 → Fin 8 → Fin 3 → Fin 6 → Row}
  (hx : ∀ n t s p j, (V (Proc.devRef .tc main_arg0) : FVec Ideal S1024x8x3x6x36 .f32) (ix5 n t s p j)
    = ((bitR (b n t s p j) : ℝ) : EReal))

include hx

/-- The one-hot columns. -/
theorem v115_apply (n : Fin 1024) (t : Fin 8) (s : Fin 3) (p : Fin 6) (o : Fin 250) :
    (res_main_v115 V : FVec Ideal S1024x8x3x6x250 .f32) (ix5 n t s p o)
      = ((bitR (hot (b n t s p) (decide (s.val = 2)) o.val) : ℝ) : EReal) := by
  unfold res_main_v115
  clean_types
  refine cat11_apply n t s p (fun o => ((bitR (hot (b n t s p) (decide (s.val = 2)) o) : ℝ) : EReal)) _ _ _ _ _ _ _ _ _ _ _
    ?_ ?_ ?_ ?_ ?_ ?_ ?_ ?_ ?_ ?_ ?_ o
  · intro o
    refine (Take.take5_apply _ rfl rfl rfl rfl rfl rfl rfl RefTables.formeT _ _ _ (fun n t s p => bitRow 16 (by decide) (b n t s p 1)) (by decide)
      (call14_apply hx) (fun _ => rfl) (fun _ => rfl) _ (fun _ => rfl) _ _ _ _ _ n t s p o).trans
      ((RefTables.formeT_row _ _).trans (bit_eq ?_))
    rw [hot_chain, if_pos (by omega)]
  · refine cat4_apply n t s p (fun o => ((bitR (hot (b n t s p) (decide (s.val = 2)) (15 + o)) : ℝ) : EReal)) _ _ _ _ ?_ ?_ ?_ ?_
    · intro o
      refine (Take.take5_apply _ rfl rfl rfl rfl rfl rfl rfl RefTables.hpT _ _ _ (fun n t s p => bitRow 768 (by decide) (b n t s p 3)) (by decide)
        (call1_apply hx) (fun _ => rfl) (fun _ => rfl) _ (fun _ => rfl) _ _ _ _ _ n t s p o).trans
        ((RefTables.hpT_row _ _).trans (bit_eq ?_))
      rw [hot_chain, if_neg (by omega), if_pos (by omega)]
      exact shift_beq 15 _
    · intro o
      refine (Take.take5_apply _ rfl rfl rfl rfl rfl rfl rfl RefTables.hpT _ _ _ (fun n t s p => bitRow 768 (by decide) (b n t s p 4)) (by decide)
        (call2_apply hx) (fun _ => rfl) (fun _ => rfl) _ (fun _ => rfl) _ _ _ _ _ n t s p o).trans
        ((RefTables.hpT_row _ _).trans (bit_eq ?_))
      rw [hot_chain, if_neg (by omega), if_neg (by omega), if_pos (by omega)]
      rw [← Nat.add_assoc]
      exact shift_beq 42 _
    · intro o
      obtain rfl : o = 0 := Subsingleton.elim _ _
      pointwise
      rw [hx]
      refine bit_eq ?_
      rw [hot_chain, if_neg (by omega), if_neg (by omega), if_neg (by omega), if_pos (by omega)]
    · intro o
      refine (stat_at _ _ n t s p o).trans ?_
      refine (Take.take6_apply _ rfl rfl rfl rfl rfl rfl rfl RefTables.statT _ _ _
        (fun n t s p q => bitRow 512 (by decide) (b n t s p ⟨6 + q.val, by omega⟩)) (by decide)
        (call3_apply hx) (fun _ => rfl) (fun _ => rfl) _ (fun _ => rfl) _ _ _ _ _ n t s p _ _).trans
        ((RefTables.statT_row _ _).trans (bit_eq ?_))
      rw [hot_chain, if_neg (by omega), if_neg (by omega), if_neg (by omega), if_neg (by omega), if_pos (by omega)]
      rw [show 15 + (55 + o.val) - 70 = o.val by omega]
  · intro o
    refine (Take.take5_apply _ rfl rfl rfl rfl rfl rfl rfl RefTables.activeT _ _ _ (fun n t s p => bitRow 3 (by decide) (b n t s p 12)) (by decide)
      (call15_apply hx) (fun _ => rfl) (fun _ => rfl) _ (fun _ => rfl) _ _ _ _ _ n t s p o).trans
      ((RefTables.activeT_row _ _).trans (bit_eq ?_))
    rw [hot_chain, if_neg (by omega), if_neg (by omega), if_neg (by omega), if_neg (by omega), if_neg (by omega), if_pos (by omega)]
    rw [Nat.add_sub_cancel_left]
  · intro o
    refine (Take.take5_apply _ rfl rfl rfl rfl rfl rfl rfl RefTables.faintedT _ _ _ (fun n t s p => bitRow 3 (by decide) (b n t s p 11)) (by decide)
      (call16_apply hx) (fun _ => rfl) (fun _ => rfl) _ (fun _ => rfl) _ _ _ _ _ n t s p o).trans
      ((RefTables.faintedT_row _ _).trans (bit_eq ?_))
    rw [hot_chain, if_neg (by omega), if_neg (by omega), if_neg (by omega), if_neg (by omega), if_neg (by omega), if_neg (by omega), if_pos (by omega)]
    rw [Nat.add_sub_cancel_left]
  · intro o
    refine (Take.take5_apply _ rfl rfl rfl rfl rfl rfl rfl RefTables.genderT _ _ _ (fun n t s p => bitRow 4 (by decide) (b n t s p 14)) (by decide)
      (call17_apply hx) (fun _ => rfl) (fun _ => rfl) _ (fun _ => rfl) _ _ _ _ _ n t s p o).trans
      ((RefTables.genderT_row _ _).trans (bit_eq ?_))
    rw [hot_chain, if_neg (by omega), if_neg (by omega), if_neg (by omega), if_neg (by omega), if_neg (by omega), if_neg (by omega), if_neg (by omega), if_pos (by omega)]
    rw [Nat.add_sub_cancel_left]
  · intro o
    refine (Take.take5_apply _ rfl rfl rfl rfl rfl rfl rfl RefTables.levelT _ _ _ (fun n t s p => 0) (by decide)
      (call18_apply hx) (fun _ => rfl) (fun _ => rfl) _ (fun _ => rfl) _ _ _ _ _ n t s p o).trans
      ((RefTables.levelT_row _).trans (bit_eq ?_))
    rw [hot_chain, if_neg (by omega), if_neg (by omega), if_neg (by omega), if_neg (by omega), if_neg (by omega), if_neg (by omega), if_neg (by omega), if_neg (by omega), if_pos (by omega)]
    exact shift_beq 112 _
  · refine cat3_apply n t s p (fun o => ((bitR (hot (b n t s p) (decide (s.val = 2)) (212 + o)) : ℝ) : EReal)) _ _ _ ?_ ?_ ?_
    · intro o
      refine (Take.take5_apply _ rfl rfl rfl rfl rfl rfl rfl RefTables.statusT _ _ _ (fun n t s p => bitRow 8 (by decide) (b n t s p 21)) (by decide)
        (call7_apply hx) (fun _ => rfl) (fun _ => rfl) _ (fun _ => rfl) _ _ _ _ _ n t s p o).trans
        ((RefTables.statusT_row _ _).trans (bit_eq ?_))
      rw [hot_chain, if_neg (by omega), if_neg (by omega), if_neg (by omega), if_neg (by omega), if_neg (by omega), if_neg (by omega), if_neg (by omega), if_neg (by omega), if_neg (by omega), if_pos (by omega)]
      rw [Nat.add_sub_cancel_left]
    · intro o
      refine (Take.take5_apply _ rfl rfl rfl rfl rfl rfl rfl RefTables.sleepT _ _ _ (fun n t s p => bitRow 4 (by decide) (b n t s p 22)) (by decide)
        (call8_apply hx) (fun _ => rfl) (fun _ => rfl) _ (fun _ => rfl) _ _ _ _ _ n t s p o).trans
        ((RefTables.sleepT_row _ _).trans (bit_eq ?_))
      rw [hot_chain, if_neg (by omega), if_neg (by omega), if_neg (by omega), if_neg (by omega), if_neg (by omega), if_neg (by omega), if_neg (by omega), if_neg (by omega), if_neg (by omega), if_neg (by omega), if_pos (by omega)]
      rw [show 212 + (7 + o.val) - 219 = o.val by omega]
    · intro o
      refine (Take.take5_apply _ rfl rfl rfl rfl rfl rfl rfl RefTables.toxicT _ _ _ (fun n t s p => bitRow 16 (by decide) (b n t s p 23)) (by decide)
        (call9_apply hx) (fun _ => rfl) (fun _ => rfl) _ (fun _ => rfl) _ _ _ _ _ n t s p o).trans
        ((RefTables.toxicT_row _ _).trans (bit_eq ?_))
      rw [hot_chain, if_neg (by omega), if_neg (by omega), if_neg (by omega), if_neg (by omega), if_neg (by omega), if_neg (by omega), if_neg (by omega), if_neg (by omega), if_neg (by omega), if_neg (by omega), if_neg (by omega), if_pos (by omega)]
      rw [← Nat.add_assoc]
      exact shift_beq 222 _
  · intro o
    refine (Take.take5_apply _ rfl rfl rfl rfl rfl rfl rfl RefTables.sideT _ _ _ (fun n t s p => sideRow s) (by decide)
      (call19_apply (V := V)) (fun _ => rfl) (fun _ => rfl) _ (fun _ => rfl) _ _ _ _ _ n t s p o).trans
      ((RefTables.sideT_row _ _).trans (bit_eq ?_))
    rw [hot_chain, if_neg (by omega), if_neg (by omega), if_neg (by omega), if_neg (by omega), if_neg (by omega), if_neg (by omega), if_neg (by omega), if_neg (by omega), if_neg (by omega), if_neg (by omega), if_neg (by omega), if_neg (by omega), if_pos (by omega)]
    rw [Nat.add_sub_cancel_left, sideRow]
    by_cases h : s.val = 2 <;> simp [h]
  · intro o
    refine (Take.take5_apply _ rfl rfl rfl rfl rfl rfl rfl RefTables.knownT _ _ _ (fun n t s p => 0) (by decide)
      (call20_apply (V := V)) (fun _ => rfl) (fun _ => rfl) _ (fun _ => rfl) _ _ _ _ _ n t s p o).trans
      ((RefTables.knownT_row _).trans (bit_eq ?_))
    rw [hot_chain, if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]
    exact shift_beq 227 _
  · intro o
    refine (Take.take5_apply _ rfl rfl rfl rfl rfl rfl rfl RefTables.typeT _ _ _ (fun n t s p => bitRow 20 (by decide) (b n t s p 35)) (by decide)
      (call21_apply hx) (fun _ => rfl) (fun _ => rfl) _ (fun _ => rfl) _ _ _ _ _ n t s p o).trans
      ((RefTables.typeT_row _ _).trans (bit_eq ?_))
    rw [hot_chain, if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]
    rw [Nat.add_sub_cancel_left]
  · intro o
    refine (Take.take5_apply _ rfl rfl rfl rfl rfl rfl rfl RefTables.teraT _ _ _ (fun n t s p => 1) (by decide)
      (call22_apply hx) (fun _ => rfl) (fun _ => rfl) _ (fun _ => rfl) _ _ _ _ _ n t s p o).trans
      ((RefTables.teraT_row _).trans (bit_eq ?_))
    rw [hot_chain, if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)]
    rw [Bool.eq_iff_iff]
    simp only [beq_iff_eq]
    omega

end Cert.Emb.Ref
end
-- ==== Proof.Emb.RefValue.lean ====
module

public import proofs.«01_k».proof.Proof.Emb.RefDense
public import proofs.«01_k».proof.Proof.Emb.RefOnehot

/-!
# The reference's results, entry by entry

On a row of bits and real tables: a move's embedding, the whole embedding, and the mask.
-/

@[expose] public section

set_option maxRecDepth 16384

noncomputable section

namespace Cert.Emb.Ref

open Cert.ReferenceIdeal Cert.ReferenceIdeal.Gen Cert.ReferenceIdeal.Value Idealize.ShloMosaic Idealize.ShloMosaic.TcCoe
  Idealize.ShloMosaic.StableHlo

section
variable (V : Valuation τ sig (Elt Ideal))

/-- The moves' rows. -/
def moveRows : FVec Ideal S1024x8x3x6x4x128 .f32 :=
  select (broadcastInDim S1024x8x3x6x4x128 ![0, 1, 2, 3, 4] bcast_S1024x8x3x6x4_S1024x8x3x6x4x128_0_1_2_3_4
    (Host.reduce IntOp.andi (andi
        (cmpi .sge (res_main_call10_v5 V) (broadcastInDim S1024x8x3x6x4x1 ![] bcast_S_S1024x8x3x6x4x1 (constantI S_ 32 0#32)))
        (cmpi .sle (res_main_call10_v5 V) (broadcastInDim S1024x8x3x6x4x1 ![0, 1, 2, 3, 4, 5] bcast_S1x1x1x1x1x1_S1024x8x3x6x4x1_0_1_2_3_4_5
          (broadcastInDim S1x1x1x1x1x1 ![5] bcast_S1_S1x1x1x1x1x1_5 (constantI S1 32 918#32)))))
      (constantI S_ 1 1#1) reducesTo_S1024x8x3x6x4x1_S1024x8x3x6x4_d5 h_S_))
    (Host.gather gather_S919x128_S1024x8x3x6x4x1_S1024x8x3x6x4x128_5_0_n_n_0_5_1128 (V (Proc.devRef .tc main_arg10)) (res_main_call10_v5 V))
    (broadcastInDim S1024x8x3x6x4x128 ![] bcast_S_S1024x8x3x6x4x128 (constant S_ .f32 0x7FC00000#32))

/-- The moves' power points. -/
def powerRows : FVec Ideal S1024x8x3x6x4x6 .f32 :=
  select (broadcastInDim S1024x8x3x6x4x6 ![0, 1, 2, 3, 4] bcast_S1024x8x3x6x4_S1024x8x3x6x4x6_0_1_2_3_4
    (Host.reduce IntOp.andi (andi
        (cmpi .sge (res_main_call11_v5 V) (broadcastInDim S1024x8x3x6x4x1 ![] bcast_S_S1024x8x3x6x4x1 (constantI S_ 32 0#32)))
        (cmpi .sle (res_main_call11_v5 V) (broadcastInDim S1024x8x3x6x4x1 ![0, 1, 2, 3, 4, 5] bcast_S1x1x1x1x1x1_S1024x8x3x6x4x1_0_1_2_3_4_5
          (broadcastInDim S1x1x1x1x1x1 ![5] bcast_S1_S1x1x1x1x1x1_5 (constantI S1 32 63#32)))))
      (constantI S_ 1 1#1) reducesTo_S1024x8x3x6x4x1_S1024x8x3x6x4_d5 h_S_))
    (Host.gather gather_S64x6_S1024x8x3x6x4x1_S1024x8x3x6x4x6_5_0_n_n_0_5_16 (res_main_cst_5 V) (res_main_call11_v5 V))
    (broadcastInDim S1024x8x3x6x4x6 ![] bcast_S_S1024x8x3x6x4x6 (constant S_ .f32 0x7FC00000#32))

/-- The moves' result. -/
def refMoves : FVec Ideal S1024x8x3x6x4x128 .f32 :=
  addf (Host.dotGeneral (φ₁ := .f32) (φ₂ := .f32) dot_S1024x8x3x6x4x134_S134x128_S1024x8x3x6x4x128_5_0_01234_1_n_n none (cat134 (moveRows V) (powerRows V))
    (V (Proc.devRef .tc main_arg11) : FVec Ideal S134x128 .f32)) (bias6 (V (Proc.devRef .tc main_arg12) : FVec Ideal S128 .f32))

/-- The whole embedding, before the mask. -/
def refSum : FVec Ideal S1024x8x3x6x128 .f32 :=
  addf (addf (res_main_v121 V)
      (Host.reduceAdd (refMoves V) (constant S_ .f32 0x00000000#32) reducesTo_S1024x8x3x6x4x128_S1024x8x3x6x128_d4 h_S_))
    (addf (Host.dotGeneral (φ₁ := .f32) (φ₂ := .f32) dot_S1024x8x3x6x250_S250x128_S1024x8x3x6x128_4_0_0123_1_n_n none (res_main_v115 V : FVec Ideal S1024x8x3x6x250 .f32)
      (V (Proc.devRef .tc main_arg15) : FVec Ideal S250x128 .f32)) (bias5 (V (Proc.devRef .tc main_arg16) : FVec Ideal S128 .f32)))

/-- The embedding's result. -/
def refPok : FVec Ideal S1024x8x18x128 .f32 :=
  shapeCast S1024x8x18x128 (mulf (refSum V) (broadcastInDim S1024x8x3x6x128 ![0, 1, 2, 3, 4] bcast_S1024x8x3x6x1_S1024x8x3x6x128_0_1_2_3_4
    (uitofp .f32 (broadcastInDim S1024x8x3x6x1 ![0, 1, 2, 3] bcast_S1024x8x3x6_S1024x8x3x6x1_0_1_2_3 (res_main_v125 V)))))
    shapeCasts_S1024x8x3x6x128_S1024x8x18x128

/-- The mask's result. -/
def refMask : IVec S1024x8x18 1 := shapeCast S1024x8x18 (res_main_v125 V) shapeCasts_S1024x8x3x6_S1024x8x18

end

variable {V : Valuation τ sig (Elt Ideal)} {b : Fin 1024 → Fin 8 → Fin 3 → Fin 6 → Row}
  (hx : ∀ n t s p j, (V (Proc.devRef .tc main_arg0) : FVec Ideal S1024x8x3x6x36 .f32) (ix5 n t s p j) = ((bitR (b n t s p j) : ℝ) : EReal))
  {W : Weights}
  (H : Holds W (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11) : FVec Ideal S134x128 .f32) (V (Proc.devRef .tc main_arg12) : FVec Ideal S128 .f32)
    (V (Proc.devRef .tc main_arg15) : FVec Ideal S250x128 .f32) (V (Proc.devRef .tc main_arg16) : FVec Ideal S128 .f32))

include hx

/-- A move's row. -/
theorem moveRows_apply (n : Fin 1024) (t : Fin 8) (s : Fin 3) (p : Fin 6) (q : Fin 4) (o : Fin 128) :
    moveRows V (ix6 n t s p q o) = (V (Proc.devRef .tc main_arg10) : FVec Ideal S919x128 .f32)
      (ix2 (bitRow 919 (by decide) (b n t s p (Weights.mvJ q))) o) := by
  unfold moveRows
  exact Take.take6_apply _ rfl rfl rfl rfl rfl rfl rfl (V (Proc.devRef .tc main_arg10) : FVec Ideal S919x128 .f32) _ _ _
    (fun n t s p q => bitRow 919 (by decide) (b n t s p (Weights.mvJ q)))
    (by decide) (call10_apply hx) (fun _ => rfl) (fun _ => rfl) _ (fun _ => rfl) _ _ _ _ _ n t s p q o

/-- A move's power points. -/
theorem powerRows_apply (n : Fin 1024) (t : Fin 8) (s : Fin 3) (p : Fin 6) (q : Fin 4) (o : Fin 6) :
    powerRows V (ix6 n t s p q o) = ((bitR (o.val == (b n t s p (Weights.ppJ q)).toNat) : ℝ) : EReal) := by
  unfold powerRows res_main_cst_5
  exact (Take.take6_apply _ rfl rfl rfl rfl rfl rfl rfl RefTables.ppT _ _ _
    (fun n t s p q => bitRow 64 (by decide) (b n t s p (Weights.ppJ q)))
    (by decide) (call11_apply hx) (fun _ => rfl) (fun _ => rfl) _ (fun _ => rfl) _ _ _ _ _ n t s p q o).trans (RefTables.ppT_row _ _)

/-- The mask: every row of bits is known. -/
theorem refMask_apply (n : Fin 1024) (t : Fin 8) (q : Fin 18) : refMask V (ix3 n t q) = 1#1 := by
  unfold refMask
  pointwise
  exact v125_apply hx _ _ _ _

include H

/-- A move's embedding. -/
theorem refMoves_apply (n : Fin 1024) (t : Fin 8) (s : Fin 3) (p : Fin 6) (q : Fin 4) (o : Fin 128) :
    refMoves V (ix6 n t s p q o) = ((W.mov (b n t s p) q o : ℝ) : EReal) := by
  unfold refMoves
  exact dense134 n t s p q o (fun k => W.mvT (rowNat (b n t s p (Weights.mvJ q))) k) W.mvW W.mvB _ _ _ _
    (fun k => bitR (k == (b n t s p (Weights.ppJ q)).toNat)) (fun k => (moveRows_apply hx n t s p q k).trans (H.mvT _ _))
    (fun k => powerRows_apply hx n t s p q k) H.mvW H.mvB

/-- The name's, the ability's and the item's embeddings together. -/
theorem v121_apply (n : Fin 1024) (t : Fin 8) (s : Fin 3) (p : Fin 6) (o : Fin 128) :
    (res_main_v121 V : FVec Ideal S1024x8x3x6x128 .f32) (ix5 n t s p o)
      = ((W.nameE (b n t s p 0) o + W.abilityE (b n t s p 15) o + W.itemE (b n t s p 17) (b n t s p 19) o : ℝ) : EReal) := by
  unfold res_main_v121
  clean_types
  refine sum3 n t s p o _ _ _ _ _ _ ?_ ?_ ?_
  · exact dense128 n t s p o (fun k => W.pokT (rowNat (b n t s p 0)) k) W.pokW W.pokB _ _ _ (fun k =>
      (Take.take5_apply _ rfl rfl rfl rfl rfl rfl rfl (V (Proc.devRef .tc main_arg1) : FVec Ideal S1318x128 .f32) _ _ _
        (fun n t s p => bitRow 1318 (by decide) (b n t s p 0)) (by decide)
        (call0_apply hx) (fun _ => rfl) (fun _ => rfl) _ (fun _ => rfl) _ _ _ _ _ n t s p k).trans (H.pokT _ _)) H.pokW H.pokB
  · exact dense64 n t s p o (fun k => W.abT (rowNat (b n t s p 15)) k) W.abW W.abB _ _ _ (fun k =>
      (Take.take5_apply _ rfl rfl rfl rfl rfl rfl rfl (V (Proc.devRef .tc main_arg4) : FVec Ideal S314x64 .f32) _ _ _
        (fun n t s p => bitRow 314 (by decide) (b n t s p 15)) (by decide)
        (call4_apply hx) (fun _ => rfl) (fun _ => rfl) _ (fun _ => rfl) _ _ _ _ _ n t s p k).trans (H.abT _ _)) H.abW H.abB
  · exact dense81 n t s p o (fun k => W.itT (rowNat (b n t s p 17)) k) W.itW W.itB _ _ _ _ (fun k => bitR (k == (b n t s p 19).toNat))
      (fun k =>
        (Take.take5_apply _ rfl rfl rfl rfl rfl rfl rfl (V (Proc.devRef .tc main_arg7) : FVec Ideal S528x64 .f32) _ _ _
          (fun n t s p => bitRow 528 (by decide) (b n t s p 17)) (by decide)
          (call5_apply hx) (fun _ => rfl) (fun _ => rfl) _ (fun _ => rfl) _ _ _ _ _ n t s p k).trans (H.itT _ _))
      (fun k =>
        (Take.take5_apply _ rfl rfl rfl rfl rfl rfl rfl RefTables.effT _ _ _ (fun n t s p => bitRow 18 (by decide) (b n t s p 19))
          (by decide) (call6_apply hx) (fun _ => rfl) (fun _ => rfl) _ (fun _ => rfl) _ _ _ _ _ n t s p k).trans (RefTables.effT_row _ _))
      H.itW H.itB

/-- The whole embedding. -/
theorem refSum_apply (n : Fin 1024) (t : Fin 8) (s : Fin 3) (p : Fin 6) (o : Fin 128) :
    refSum V (ix5 n t s p o) = ((W.pok (b n t s p) (decide (s.val = 2)) o : ℝ) : EReal) := by
  unfold refSum
  exact sum3 n t s p o _ _ _ _ _ _ (v121_apply hx H n t s p o)
    (sum_moves n t s p o (refMoves V) _ fun q => refMoves_apply hx H n t s p q o)
    (dense250 n t s p o (fun k => bitR (hot (b n t s p) (decide (s.val = 2)) k)) W.ohW W.ohB (res_main_v115 V) _ _
      (fun k => v115_apply hx n t s p k) H.ohW H.ohB)

/-- The embedding's result. -/
theorem refPok_apply (n : Fin 1024) (t : Fin 8) (q : Fin 18) (o : Fin 128) :
    refPok V (ix4 n t q o)
      = ((W.pok (b n t ⟨q.val / 6, by omega⟩ ⟨q.val % 6, by omega⟩) (decide (q.val / 6 = 2)) o : ℝ) : EReal) := by
  unfold refPok
  exact (masked _ _ (v125_apply hx) n t q o).trans (refSum_apply hx H n t _ _ o)

end Cert.Emb.Ref
end
-- ==== Proof.Emb.Values.lean ====
module

public import proofs.«01_k».proof.Proof.Emb.Equation
public import proofs.«01_k».proof.Proof.Emb.Tail
public import proofs.«01_k».proof.Proof.Emb.RefValue

/-!
# The results, of arguments that are bits and real tables

The kernel's three results are the embedding, the moves and the mask of the rows; the reference's are the same.
-/

@[expose] public section

set_option maxRecDepth 16384

noncomputable section

namespace Cert.Emb

/-- Tables that hold a set of weights may be replaced by equal ones. -/
theorem Holds.congr {W : Weights} {A1 B1 A2 B2 A3 B3 A4 B4 A5 B5 A6 B6 A7 B7 A8 B8 A9 B9 A10 B10 A11 B11 A12 B12 A15 B15 A16 B16}
    (e1 : A1 = B1) (e2 : A2 = B2) (e3 : A3 = B3) (e4 : A4 = B4) (e5 : A5 = B5) (e6 : A6 = B6) (e7 : A7 = B7) (e8 : A8 = B8)
    (e9 : A9 = B9) (e10 : A10 = B10) (e11 : A11 = B11) (e12 : A12 = B12) (e15 : A15 = B15) (e16 : A16 = B16)
    (H : Holds W B1 B2 B3 B4 B5 B6 B7 B8 B9 B10 B11 B12 B15 B16) : Holds W A1 A2 A3 A4 A5 A6 A7 A8 A9 A10 A11 A12 A15 A16 := by
  subst e1 e2 e3 e4 e5 e6 e7 e8 e9 e10 e11 e12 e15 e16
  exact H

/-- The embedding every row of bits has, laid out as the results are. -/
def pokArr (W : Weights) (b : Fin 1024 → Fin 8 → Fin 3 → Fin 6 → Row) (n : Fin 1024) (t : Fin 8) (q : Fin 18) (o : Fin 128) : EReal :=
  ((W.pok (b n t ⟨q.val / 6, by omega⟩ ⟨q.val % 6, by omega⟩) (decide (q.val / 6 = 2)) o : ℝ) : EReal)

namespace KernelSide

open Cert.KernelIdeal Cert.KernelIdeal.Gen Cert.Emb.Arrays Cert.Emb.Entry Cert.Emb.Equation Cert.Emb.Tail Idealize.ShloMosaic
  Idealize.ShloMosaic.TcCoe

variable (m : (ℓ : Loc nD τ sig) → Buf (Elt Ideal) ℓ) (c : Dev nD)

/-- The embedding the kernel ends with. -/
def pokRes : FVec Ideal S1024x8x18x128 .f32 :=
  pokOut (G4 (V m c main_arg0) (V m c main_v72) (V m c main_v76) (V m c main_v82))

/-- The moves it ends with. -/
def moveRes : FVec Ideal S1024x8x3x6x4x128 .f32 := moveOut (G5 (V m c main_arg0) (V m c main_v72) (V m c main_v76))

/-- The mask it ends with. -/
def maskRes : IVec S1024x8x18 1 := maskOut (V m c main_arg0)

variable {m c} {b : Fin 1024 → Fin 8 → Fin 3 → Fin 6 → Row}
  (hx : ∀ n t s p j, (m (c, Proc.devRef .tc main_arg0) : FVec Ideal S1024x8x3x6x36 .f32) (ix5 n t s p j) = ((bitR (b n t s p j) : ℝ) : EReal))

include hx

/-- An entry of the kernel's input. -/
theorem input_apply (n t s p j) : (V m c main_arg0 : FVec Ideal S1024x8x3x6x36 .f32) (ix5 n t s p j) = ((bitR (b n t s p j) : ℝ) : EReal) :=
  (congrFun (V_main_arg0 m c) _).trans (hx n t s p j)

/-- The kernel's mask. -/
theorem mask_apply (n : Fin 1024) (t : Fin 8) (q : Fin 18) : maskRes m c (ix3 n t q) = 1#1 :=
  maskOut_apply _ b (input_apply hx) n t q

variable {W : Weights}
  (H : Holds W (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6))
    (m (c, Proc.devRef .tc main_arg7)) (m (c, Proc.devRef .tc main_arg8)) (m (c, Proc.devRef .tc main_arg9))
    (m (c, Proc.devRef .tc main_arg10)) (m (c, Proc.devRef .tc main_arg11)) (m (c, Proc.devRef .tc main_arg12))
    (m (c, Proc.devRef .tc main_arg15)) (m (c, Proc.devRef .tc main_arg16)))

include H

/-- The kernel's moves. -/
theorem move_apply (n : Fin 1024) (t : Fin 8) (s : Fin 3) (p : Fin 6) (q : Fin 4) (o : Fin 128) :
    moveRes m c (ix6 n t s p q o) = ((W.mov (b n t s p) q o : ℝ) : EReal) := by
  unfold moveRes
  rw [entry_w, entry_base]
  refine (moveOut_apply _ _ _ n t s p q o).trans ?_
  exact move_value H _ (b n t s p) (fun j => input_apply hx n t s p j) (pkOf m c) q o

/-- The kernel's embedding. -/
theorem pok_apply (n : Fin 1024) (t : Fin 8) (q : Fin 18) (o : Fin 128) : pokRes m c (ix4 n t q o) = pokArr W b n t q o := by
  unfold pokRes
  rw [entry_w, entry_base, entry_delta]
  refine (pokOut_apply _ _ _ _ n t q o).trans ?_
  exact name_value H _ (b n t _ _) (fun j => input_apply hx n t _ _ j) q o

end KernelSide

namespace Ref

open Cert.ReferenceIdeal Idealize.ShloMosaic

variable {V : Valuation τ sig (Elt Ideal)} {b : Fin 1024 → Fin 8 → Fin 3 → Fin 6 → Row}
  (hx : ∀ n t s p j, (V (Proc.devRef .tc main_arg0) : FVec Ideal S1024x8x3x6x36 .f32) (ix5 n t s p j) = ((bitR (b n t s p j) : ℝ) : EReal))

include hx

/-- The reference's mask is any mask of ones. -/
theorem refMask_eq (X : IVec S1024x8x18 1) (h : ∀ n t q, X (ix3 n t q) = 1#1) : refMask V = X := by
  funext i
  rw [eq_ix3 i]
  exact (refMask_apply hx _ _ _).trans (h _ _ _).symm

variable {W : Weights}
  (H : Holds W (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11) : FVec Ideal S134x128 .f32) (V (Proc.devRef .tc main_arg12) : FVec Ideal S128 .f32)
    (V (Proc.devRef .tc main_arg15) : FVec Ideal S250x128 .f32) (V (Proc.devRef .tc main_arg16) : FVec Ideal S128 .f32))

include H

/-- The reference's moves are any array with the moves' embeddings for entries. -/
theorem refMoves_eq (X : FVec Ideal S1024x8x3x6x4x128 .f32)
    (h : ∀ n t s p q o, X (ix6 n t s p q o) = ((W.mov (b n t s p) q o : ℝ) : EReal)) : refMoves V = X := by
  funext i
  rw [eq_ix6 i]
  exact (refMoves_apply hx H _ _ _ _ _ _).trans (h _ _ _ _ _ _).symm

/-- The reference's embedding is any array with the rows' embeddings for entries. -/
theorem refPok_eq (X : FVec Ideal S1024x8x18x128 .f32) (h : ∀ n t q o, X (ix4 n t q o) = pokArr W b n t q o) : refPok V = X := by
  funext i
  rw [eq_ix4 i]
  exact (refPok_apply hx H _ _ _ _).trans (h _ _ _ _).symm

end Ref

end Cert.Emb
end
-- ==== Proof.Emb.Pre.lean ====
module

public import proofs.«01_k».proof.Pre_bits_and_finite
public import proofs.«01_k».proof.Proof.Emb.Holds
public import Idealize.ShloMosaic.Lib.Pointwise

/-!
# The precondition

What the precondition says of the arguments: the input is made of bits, and the tables and weights are real numbers.
-/

@[expose] public section

set_option maxRecDepth 16384

noncomputable section

namespace Cert.Emb.Pre

open Idealize.ShloMosaic

/-- The pattern of infinity. -/
theorem ofBits_inf : Ideal.ofBits .f32 0x7F800000#32 = (⊤ : EReal) := by simp [Ideal.ofBits, Ideal.ieee]

/-- A flag of one bit is set when its condition holds. -/
theorem of_ofBool {p : Bool} (h : BitVec.ofBool p = 1#1) : p = true := by
  cases p
  · exact absurd h (by decide)
  · rfl

/-- An array whose absolute values lie below infinity holds real numbers. -/
theorem finite_coe {s : Shape} (x : FVec Ideal s .f32) {hb}
    (h : cmpf .olt (Host.absf x) (broadcastInDim s ![] hb (constant ⟨0, ![]⟩ .f32 0x7F800000#32)) = fun _ => 1#1)
    (i : s.Idx) : x i = (((x i : EReal).toReal : ℝ) : EReal) := by
  have e : BitVec.ofBool (decide (max (x i : EReal) (-(x i : EReal)) < Ideal.ofBits .f32 0x7F800000#32)) = 1#1 := congrFun h i
  have e2 := of_decide_eq_true (of_ofBool e)
  rw [ofBits_inf, max_lt_iff] at e2
  refine (EReal.coe_toReal (ne_of_lt e2.1) ?_).symm
  intro hbot
  rw [hbot] at e2
  exact absurd e2.2 (by simp)

/-- An array each of whose numbers is nought or one. -/
theorem bit_cases {s : Shape} (x : FVec Ideal s .f32) {hb hb'}
    (h : ori (cmpf .oeq x (broadcastInDim s ![] hb (constant ⟨0, ![]⟩ .f32 0x00000000#32)))
      (cmpf .oeq x (broadcastInDim s ![] hb' (constant ⟨0, ![]⟩ .f32 0x3F800000#32))) = fun _ => 1#1)
    (i : s.Idx) : (x i : EReal) = 0 ∨ (x i : EReal) = 1 := by
  have e : BitVec.ofBool (decide ((x i : EReal) = Ideal.ofBits .f32 0x00000000#32))
      ||| BitVec.ofBool (decide ((x i : EReal) = Ideal.ofBits .f32 0x3F800000#32)) = 1#1 := congrFun h i
  rw [Ideal.ofBits_zero_f32, Ideal.ofBits_one_f32] at e
  by_cases h0 : (x i : EReal) = 0
  · exact Or.inl h0
  · rw [decide_eq_false h0] at e
    by_cases h1 : (x i : EReal) = 1
    · exact Or.inr h1
    · rw [decide_eq_false h1] at e
      exact absurd e (by decide)

/-- A matrix's entries as real numbers, at natural indices. -/
def real2 {n k : ℕ} (A : FVec Ideal ⟨2, ![n, k]⟩ .f32) (i o : ℕ) : ℝ :=
  if h : i < n ∧ o < k then (A (ix2 ⟨i, h.1⟩ ⟨o, h.2⟩) : EReal).toReal else 0

/-- A vector's entries as real numbers, at natural indices. -/
def real1 {k : ℕ} (A : FVec Ideal ⟨1, ![k]⟩ .f32) (o : ℕ) : ℝ :=
  if h : o < k then (A (ix1 ⟨o, h⟩) : EReal).toReal else 0

/-- They are the matrix's entries. -/
theorem real2_apply {n k : ℕ} (A : FVec Ideal ⟨2, ![n, k]⟩ .f32) (h : ∀ i, A i = (((A i : EReal).toReal : ℝ) : EReal))
    (i : Fin n) (o : Fin k) : A (ix2 i o) = ((real2 A i o : ℝ) : EReal) := by
  rw [real2, dif_pos ⟨i.isLt, o.isLt⟩]
  exact h _

/-- They are the vector's entries. -/
theorem real1_apply {k : ℕ} (A : FVec Ideal ⟨1, ![k]⟩ .f32) (h : ∀ i, A i = (((A i : EReal).toReal : ℝ) : EReal))
    (o : Fin k) : A (ix1 o) = ((real1 A o : ℝ) : EReal) := by
  rw [real1, dif_pos o.isLt]
  exact h _

/-- The bits of the input's row at a batch entry, a turn, a side and a place. -/
def bits (x : FVec Ideal ⟨5, ![1024, 8, 3, 6, 36]⟩ .f32) (n : Fin 1024) (t : Fin 8) (s : Fin 3) (p : Fin 6) : Row :=
  fun j => decide ((x (ix5 n t s p j) : EReal) = 1)

open Cert.Pre_bits_and_finite in
/-- What the precondition says: the input's rows are bits, and the tables and weights are the real numbers read off them. -/
theorem decode [Cert.Pre_bits_and_finite.Facts] (A0 : FVec Ideal S1024x8x3x6x36 .f32) (A1 : FVec Ideal S1318x128 .f32) (A2 : FVec Ideal S128x128 .f32)
    (A3 : FVec Ideal S128 .f32) (A4 : FVec Ideal S314x64 .f32) (A5 : FVec Ideal S64x128 .f32)
    (A6 : FVec Ideal S128 .f32) (A7 : FVec Ideal S528x64 .f32) (A8 : FVec Ideal S81x128 .f32)
    (A9 : FVec Ideal S128 .f32) (A10 : FVec Ideal S919x128 .f32) (A11 : FVec Ideal S134x128 .f32)
    (A12 : FVec Ideal S128 .f32) (A13 : FVec Ideal S134x128 .f32) (A14 : FVec Ideal S128 .f32)
    (A15 : FVec Ideal S250x128 .f32) (A16 : FVec Ideal S128 .f32)
    (h : let r := fn (F := Ideal) A0 A1 A2 A3 A4 A5 A6 A7 A8 A9 A10 A11 A12 A13 A14 A15 A16
      r.1 = (fun _ => 1#1) ∧ r.2.1 = (fun _ => 1#1) ∧ r.2.2.1 = (fun _ => 1#1) ∧ r.2.2.2.1 = (fun _ => 1#1)
      ∧ r.2.2.2.2.1 = (fun _ => 1#1) ∧ r.2.2.2.2.2.1 = (fun _ => 1#1) ∧ r.2.2.2.2.2.2.1 = (fun _ => 1#1)
      ∧ r.2.2.2.2.2.2.2.1 = (fun _ => 1#1) ∧ r.2.2.2.2.2.2.2.2.1 = (fun _ => 1#1) ∧ r.2.2.2.2.2.2.2.2.2.1 = (fun _ => 1#1)
      ∧ r.2.2.2.2.2.2.2.2.2.2.1 = (fun _ => 1#1) ∧ r.2.2.2.2.2.2.2.2.2.2.2.1 = (fun _ => 1#1)
      ∧ r.2.2.2.2.2.2.2.2.2.2.2.2.1 = (fun _ => 1#1) ∧ r.2.2.2.2.2.2.2.2.2.2.2.2.2.1 = (fun _ => 1#1)
      ∧ r.2.2.2.2.2.2.2.2.2.2.2.2.2.2 = (fun _ => 1#1)) :
    (∀ n t s p j, A0 (ix5 n t s p j) = ((bitR (bits A0 n t s p j) : ℝ) : EReal))
      ∧ ∃ W : Weights, Holds W A1 A2 A3 A4 A5 A6 A7 A8 A9 A10 A11 A12 A15 A16 := by
  obtain ⟨h0, h1, h2, h3, h4, h5, h6, h7, h8, h9, h10, h11, h12, h15, h16⟩ := h
  refine ⟨fun n t s p j => ?_, ⟨real2 A1, real2 A2, real1 A3, real2 A4, real2 A5, real1 A6, real2 A7, real2 A8, real1 A9,
    real2 A10, real2 A11, real1 A12, real2 A15, real1 A16⟩, ?_⟩
  · rcases bit_cases A0 h0 (ix5 n t s p j) with e | e
    · rw [e, bits, e]
      simp [bitR]
    · rw [e, bits, e]
      simp [bitR]
  · exact ⟨real2_apply A1 (finite_coe A1 h1), real2_apply A2 (finite_coe A2 h2), real1_apply A3 (finite_coe A3 h3),
      real2_apply A4 (finite_coe A4 h4), real2_apply A5 (finite_coe A5 h5), real1_apply A6 (finite_coe A6 h6),
      real2_apply A7 (finite_coe A7 h7), real2_apply A8 (finite_coe A8 h8), real1_apply A9 (finite_coe A9 h9),
      real2_apply A10 (finite_coe A10 h10), real2_apply A11 (finite_coe A11 h11), real1_apply A12 (finite_coe A12 h12),
      real2_apply A15 (finite_coe A15 h15), real1_apply A16 (finite_coe A16 h16)⟩

end Cert.Emb.Pre
end
-- ==== Proof.Emb.Runs.lean ====
module

public import proofs.«01_k».proof.Defs
public import proofs.«01_k».proof.Proof.Emb.Values
public import proofs.«01_k».proof.Proof.Emb.Pre
public import Idealize.ShloMosaic.Adequacy

/-!
# The two runs, and their results together

Where each run ends, and that the ends are equal where the input is bits and the tables and weights are finite.
-/

@[expose] public section

set_option maxRecDepth 16384

noncomputable section

namespace Cert.Emb.Runs

open Idealize.ShloMosaic Idealize.ShloMosaic.StableHlo Idealize.SL.Sem

/-- The precondition's shapes fit. -/
theorem preFacts : Cert.Pre_bits_and_finite.Facts where
  bcast_S_S1024x8x3x6x36 := by decide
  bcast_S_S1318x128 := by decide
  bcast_S_S128x128 := by decide
  bcast_S_S128 := by decide
  bcast_S_S314x64 := by decide
  bcast_S_S64x128 := by decide
  bcast_S_S528x64 := by decide
  bcast_S_S81x128 := by decide
  bcast_S_S919x128 := by decide
  bcast_S_S134x128 := by decide
  bcast_S_S250x128 := by decide

section
open Cert.KernelIdeal Cert.KernelIdeal.Gen Cert.Emb.KernelSide Cert.Emb.Tail Idealize.ShloMosaic.TcCoe

/-- The kernel ends with its three results in place. -/
theorem kernel_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v84) = pokRes m c ∧ r.2.mem ((c.tc : Thread nD τ).loc main_v95) = maskRes m c
        ∧ r.2.mem ((c.tc : Thread nD τ).loc main_v85) = moveRes m c :=
  (θ_run defs _ _).mono (fun _ h c =>
    ⟨((h c).2 main_v84 (Pipeline.mem_restRefs_of main_v84 (by decide) (by decide))).trans (tail_pok m c),
      ((h c).2 main_v95 (Pipeline.mem_restRefs_of main_v95 (by decide) (by decide))).trans (tail_mask m c),
      ((h c).2 main_v85 (Pipeline.mem_restRefs_of main_v85 (by decide) (by decide))).trans (tail_moves m c)⟩)
    (run_main m ρ)

end

section
open Cert.ReferenceIdeal Cert.ReferenceIdeal.Gen Cert.Emb.Ref Idealize.ShloMosaic.TcCoe

/-- The reference ends with its three results in place. -/
theorem reference_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v130) = refPok (launchContents m c)
        ∧ r.2.mem ((c.tc : Thread nD τ).loc main_v131) = refMask (launchContents m c)
        ∧ r.2.mem ((c.tc : Thread nD τ).loc main_v80) = refMoves (launchContents m c) :=
  (θ_run defs _ _).mono (fun _ h c => ⟨(h c).1, (h c).2.1, (h c).2.2.1⟩) (Cert.ReferenceIdeal.Value.run m ρ)

/-- The reference leaves its arguments, and every counter at zero. -/
theorem frame_ri : Cert.quiescent_ReferenceIdeal := fun m ρ _ =>
  (θ_run defs _ _).mono (fun r h => ⟨fun c => (h c).2.2.2, sem_eq_zero_of_no_sems (by decide) r.2⟩) (Cert.ReferenceIdeal.Value.run m ρ)

/-- The same where the precondition holds. -/
theorem frame_ri_pre [Cert.Pre_bits_and_finite.Facts] : Cert.quiescent_ReferenceIdeal_pre_bits_and_finite := fun m ρ _ =>
  (θ_run defs _ _).mono (fun r h => ⟨fun c => (h c).2.2.2, sem_eq_zero_of_no_sems (by decide) r.2⟩) (Cert.ReferenceIdeal.Value.run m ρ)

end

/-- The three results of the reference are the kernel's, on one device: where the two launches agree on the arguments, the input
    is bits and the tables and weights hold a set of real numbers. -/
theorem results_eq (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (b : Fin 1024 → Fin 8 → Fin 3 → Fin 6 → Row) (W : Weights)
    (hx : ∀ n t s p j, (m (c, Proc.devRef .tc Cert.KernelIdeal.main_arg0) : FVec Ideal ⟨5, ![1024, 8, 3, 6, 36]⟩ .f32) (ix5 n t s p j) = ((bitR (b n t s p j) : ℝ) : EReal))
    (H : Holds W (m (c, Proc.devRef .tc Cert.KernelIdeal.main_arg1)) (m (c, Proc.devRef .tc Cert.KernelIdeal.main_arg2))
      (m (c, Proc.devRef .tc Cert.KernelIdeal.main_arg3)) (m (c, Proc.devRef .tc Cert.KernelIdeal.main_arg4))
      (m (c, Proc.devRef .tc Cert.KernelIdeal.main_arg5)) (m (c, Proc.devRef .tc Cert.KernelIdeal.main_arg6))
      (m (c, Proc.devRef .tc Cert.KernelIdeal.main_arg7)) (m (c, Proc.devRef .tc Cert.KernelIdeal.main_arg8))
      (m (c, Proc.devRef .tc Cert.KernelIdeal.main_arg9)) (m (c, Proc.devRef .tc Cert.KernelIdeal.main_arg10))
      (m (c, Proc.devRef .tc Cert.KernelIdeal.main_arg11)) (m (c, Proc.devRef .tc Cert.KernelIdeal.main_arg12))
      (m (c, Proc.devRef .tc Cert.KernelIdeal.main_arg15)) (m (c, Proc.devRef .tc Cert.KernelIdeal.main_arg16)))
    (e0 : (V (Proc.devRef .tc Cert.ReferenceIdeal.main_arg0) : FVec Ideal ⟨5, ![1024, 8, 3, 6, 36]⟩ .f32) = m (c, Proc.devRef .tc Cert.KernelIdeal.main_arg0))
    (e1 : (V (Proc.devRef .tc Cert.ReferenceIdeal.main_arg1) : FVec Ideal ⟨2, ![1318, 128]⟩ .f32) = m (c, Proc.devRef .tc Cert.KernelIdeal.main_arg1))
    (e2 : (V (Proc.devRef .tc Cert.ReferenceIdeal.main_arg2) : FVec Ideal ⟨2, ![128, 128]⟩ .f32) = m (c, Proc.devRef .tc Cert.KernelIdeal.main_arg2))
    (e3 : (V (Proc.devRef .tc Cert.ReferenceIdeal.main_arg3) : FVec Ideal ⟨1, ![128]⟩ .f32) = m (c, Proc.devRef .tc Cert.KernelIdeal.main_arg3))
    (e4 : (V (Proc.devRef .tc Cert.ReferenceIdeal.main_arg4) : FVec Ideal ⟨2, ![314, 64]⟩ .f32) = m (c, Proc.devRef .tc Cert.KernelIdeal.main_arg4))
    (e5 : (V (Proc.devRef .tc Cert.ReferenceIdeal.main_arg5) : FVec Ideal ⟨2, ![64, 128]⟩ .f32) = m (c, Proc.devRef .tc Cert.KernelIdeal.main_arg5))
    (e6 : (V (Proc.devRef .tc Cert.ReferenceIdeal.main_arg6) : FVec Ideal ⟨1, ![128]⟩ .f32) = m (c, Proc.devRef .tc Cert.KernelIdeal.main_arg6))
    (e7 : (V (Proc.devRef .tc Cert.ReferenceIdeal.main_arg7) : FVec Ideal ⟨2, ![528, 64]⟩ .f32) = m (c, Proc.devRef .tc Cert.KernelIdeal.main_arg7))
    (e8 : (V (Proc.devRef .tc Cert.ReferenceIdeal.main_arg8) : FVec Ideal ⟨2, ![81, 128]⟩ .f32) = m (c, Proc.devRef .tc Cert.KernelIdeal.main_arg8))
    (e9 : (V (Proc.devRef .tc Cert.ReferenceIdeal.main_arg9) : FVec Ideal ⟨1, ![128]⟩ .f32) = m (c, Proc.devRef .tc Cert.KernelIdeal.main_arg9))
    (e10 : (V (Proc.devRef .tc Cert.ReferenceIdeal.main_arg10) : FVec Ideal ⟨2, ![919, 128]⟩ .f32) = m (c, Proc.devRef .tc Cert.KernelIdeal.main_arg10))
    (e11 : (V (Proc.devRef .tc Cert.ReferenceIdeal.main_arg11) : FVec Ideal ⟨2, ![134, 128]⟩ .f32) = m (c, Proc.devRef .tc Cert.KernelIdeal.main_arg11))
    (e12 : (V (Proc.devRef .tc Cert.ReferenceIdeal.main_arg12) : FVec Ideal ⟨1, ![128]⟩ .f32) = m (c, Proc.devRef .tc Cert.KernelIdeal.main_arg12))
    (e15 : (V (Proc.devRef .tc Cert.ReferenceIdeal.main_arg15) : FVec Ideal ⟨2, ![250, 128]⟩ .f32) = m (c, Proc.devRef .tc Cert.KernelIdeal.main_arg15))
    (e16 : (V (Proc.devRef .tc Cert.ReferenceIdeal.main_arg16) : FVec Ideal ⟨1, ![128]⟩ .f32) = m (c, Proc.devRef .tc Cert.KernelIdeal.main_arg16)) :
    Ref.refPok V = KernelSide.pokRes m c ∧ Ref.refMask V = KernelSide.maskRes m c ∧ Ref.refMoves V = KernelSide.moveRes m c := by
  have hx' : ∀ n t s p j, (V (Proc.devRef .tc Cert.ReferenceIdeal.main_arg0) : FVec Ideal ⟨5, ![1024, 8, 3, 6, 36]⟩ .f32) (ix5 n t s p j) = ((bitR (b n t s p j) : ℝ) : EReal) :=
    fun n t s p j => (congrFun e0 _).trans (hx n t s p j)
  have H' := Holds.congr e1 e2 e3 e4 e5 e6 e7 e8 e9 e10 e11 e12 e15 e16 H
  exact ⟨Ref.refPok_eq hx' H' _ (KernelSide.pok_apply hx H), Ref.refMask_eq hx' _ (KernelSide.mask_apply hx),
    Ref.refMoves_eq hx' H' _ (KernelSide.move_apply hx H)⟩

open Cert.KernelIdeal.Gen Cert.ReferenceIdeal.Gen in
/-- Where the input is bits and the tables and weights are finite, the kernel and the reference end with the same three results. -/
theorem algebraic_claim [Cert.Pre_bits_and_finite.Facts] : Cert.algebraic_KernelIdeal_ReferenceIdeal_pre_bits_and_finite := by
  intro m g m' g' hpre hagree
  have key : ∀ c : Dev Cert.KernelIdeal.nD,
      Ref.refPok (launchContents m' c) = KernelSide.pokRes m c ∧ Ref.refMask (launchContents m' c) = KernelSide.maskRes m c
        ∧ Ref.refMoves (launchContents m' c) = KernelSide.moveRes m c := by
    intro c
    obtain ⟨hx, W, H⟩ := Pre.decode _ _ _ _ _ _ _ _ _ _ _ _ _ _ _ _ _ (hpre c)
    obtain ⟨e0, e1, e2, e3, e4, e5, e6, e7, e8, e9, e10, e11, e12, e13, e14, e15, e16⟩ := hagree c
    exact results_eq m c (launchContents m' c) _ W hx H e0 e1 e2 e3 e4 e5 e6 e7 e8 e9 e10 e11 e12 e15 e16
  refine ⟨KernelSide.pokRes m, KernelSide.maskRes m, KernelSide.moveRes m, ?_, ?_⟩
  · exact (θ_run _ _ _).mono (fun _ h c => ⟨(h.1 c).1, (h.1 c).2.1, (h.1 c).2.2, h.2 c⟩)
      (θ_run_and (kernel_results m g) (Cert.KernelIdeal.Gen.unchanged m g))
  · exact (θ_run _ _ _).mono (fun _ h c => ⟨(h.1 c).1.trans (key c).1, (h.1 c).2.1.trans (key c).2.1, (h.1 c).2.2.trans (key c).2.2, (h.2 c).2.2.2⟩)
      (θ_run_and (reference_results m' g') (Cert.ReferenceIdeal.Value.run m' g'))

end Cert.Emb.Runs
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Emb.Runs
public import Idealize.ShloMosaic.Adequacy
public import Idealize.ShloMosaic.Init

@[expose] public section

noncomputable section

namespace Cert.Proof

open Cert.Emb.Runs

/-- Every claim of the certificate: each program leaves its arguments and its counters as they were, the kernel's reading over the
    extended reals is its own text, and where the input is bits and the tables and weights are finite the kernel's embedding, mask
    and moves are the reference's. -/
theorem claim : Cert.Claim :=
  have := preFacts
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_ri, frame_ri_pre, trivial, algebraic_claim⟩

end Cert.Proof

end
